-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S2x256x4096 : Shape := ⟨3, ![2, 256, 4096]⟩
abbrev S256x4096 : Shape := ⟨2, ![256, 4096]⟩
abbrev S2x2 : Shape := ⟨2, ![2, 2]⟩
abbrev S_ : Shape := ⟨0, ![]⟩
abbrev S2 : Shape := ⟨1, ![2]⟩
abbrev S1 : Shape := ⟨1, ![1]⟩
abbrev S128x256 : Shape := ⟨2, ![128, 256]⟩
abbrev S128x4096 : Shape := ⟨2, ![128, 4096]⟩
abbrev S1x128x4096 : Shape := ⟨3, ![1, 128, 4096]⟩
abbrev S1x1 : Shape := ⟨2, ![1, 1]⟩
abbrev S256x256 : Shape := ⟨2, ![256, 256]⟩
abbrev S1x256x4096 : Shape := ⟨3, ![1, 256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S4096x8192, .bf16⟩
  | .local _ .vmem, ⟨0, _⟩ => ⟨S4096x256, .bf16⟩
  | .local _ .vmem, ⟨1, _⟩ => ⟨S256x8192, .bf16⟩
  | .local _ .vmem, ⟨2, _⟩ => ⟨S2x256x4096, .bf16⟩
  | .local _ .vmem, ⟨3, _⟩ => ⟨S2x256x4096, .bf16⟩
  | .local _ .vmem, ⟨4, _⟩ => ⟨S256x4096, .bf16⟩
  | .local _ .vmem, ⟨5, _⟩ => ⟨S256x4096, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 5 20 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_22 : BitVec 32 := 1#32
  let v33 : BitVec 32 := Scalar.muli v14 c1_i32_22
  let v34 : BitVec 32 := Scalar.addi c0_i32_23 v33
  v34.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_26 : BitVec 32 := 1#32
  let v37 : BitVec 32 := Scalar.muli v25 c1_i32_26
  let v38 : BitVec 32 := Scalar.addi c0_i32_27 v37
  v38.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_30 : BitVec 32 := 1#32
  let v41 : BitVec 32 := Scalar.muli v14 c1_i32_30
  let v42 : BitVec 32 := Scalar.addi c0_i32_31 v41
  v42.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_34 : BitVec 32 := 1#32
  let v45 : BitVec 32 := Scalar.muli v25 c1_i32_34
  let v46 : BitVec 32 := Scalar.addi c0_i32_35 v45
  v46.toNat
def k0_off1 (d0 : Dev nD) (c0_i32_36 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v47 : BitVec 32 := Scalar.muli v2 c256_i32
  let v48 : BitVec 32 := Scalar.addi v47 c0_i32_36
  let v49 : Index := Scalar.indexCast v48
  let c0 : Index := 0#32
  ![v49.toNat, 0]
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_59 : BitVec 32 := 1#32
  let v73 : BitVec 32 := Scalar.muli v25 c1_i32_59
  let v74 : BitVec 32 := Scalar.addi c0_i32_60 v73
  v74.toNat
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_74 : BitVec 32 := 1#32
  let v85 : BitVec 32 := Scalar.muli v14 c1_i32_74
  let v86 : BitVec 32 := Scalar.addi c0_i32_75 v85
  v86.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_105 : BitVec 32 := 1#32
  let v121 : BitVec 32 := Scalar.muli v25 c1_i32_105
  let v122 : BitVec 32 := Scalar.addi c0_i32_106 v121
  v122.toNat
def k0_dev10 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_120 : BitVec 32 := 1#32
  let v133 : BitVec 32 := Scalar.muli v14 c1_i32_120
  let v134 : BitVec 32 := Scalar.addi c0_i32_121 v133
  v134.toNat
def k0_off2 (d0 : Dev nD) (c0_i32_127 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_126 : BitVec 32 := 1#32
  let v143 : BitVec 32 := Scalar.subi v2 c1_i32_126
  let v144 : BitVec 32 := Scalar.subi v143 c0_i32_127
  let c16_i32_128 : BitVec 32 := 16#32
  let c0_i32_129 : BitVec 32 := 0#32
  let v145 : BitVec 1 := Scalar.cmpi .eq c16_i32_128 c0_i32_129
  let c1_i32_130 : BitVec 32 := 1#32
  let v146 : BitVec 32 := Scalar.select v145 c1_i32_130 c16_i32_128
  let v147 : BitVec 32 := Scalar.remsi v144 v146
  let c0_i32_132 : BitVec 32 := 0#32
  let v149 : BitVec 1 := Scalar.cmpi .slt v147 c0_i32_132
  let c0_i32_133 : BitVec 32 := 0#32
  let v150 : BitVec 1 := Scalar.cmpi .slt v146 c0_i32_133
  let v151 : BitVec 1 := Scalar.xori v149 v150
  let c0_i32_131 : BitVec 32 := 0#32
  let v148 : BitVec 1 := Scalar.cmpi .ne v147 c0_i32_131
  let v152 : BitVec 1 := Scalar.andi v151 v148
  let v153 : BitVec 32 := Scalar.addi v147 v146
  let v154 : BitVec 32 := Scalar.select v152 v153 v147
  let c256_i32_134 : BitVec 32 := 256#32
  let v155 : BitVec 32 := Scalar.muli v154 c256_i32_134
  let v156 : Index := Scalar.indexCast v155
  let c0_135 : Index := 0#32
  ![v156.toNat, 0]
def k0_off3 (d0 : Dev nD) (c0_i32_142 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v166 : BitVec 32 := Scalar.addi v2 c1_i32_141
  let v167 : BitVec 32 := Scalar.addi v166 c0_i32_142
  let c16_i32_143 : BitVec 32 := 16#32
  let c0_i32_144 : BitVec 32 := 0#32
  let v168 : BitVec 1 := Scalar.cmpi .eq c16_i32_143 c0_i32_144
  let c1_i32_145 : BitVec 32 := 1#32
  let v169 : BitVec 32 := Scalar.select v168 c1_i32_145 c16_i32_143
  let v170 : BitVec 32 := Scalar.remsi v167 v169
  let c0_i32_147 : BitVec 32 := 0#32
  let v172 : BitVec 1 := Scalar.cmpi .slt v170 c0_i32_147
  let c0_i32_148 : BitVec 32 := 0#32
  let v173 : BitVec 1 := Scalar.cmpi .slt v169 c0_i32_148
  let v174 : BitVec 1 := Scalar.xori v172 v173
  let c0_i32_146 : BitVec 32 := 0#32
  let v171 : BitVec 1 := Scalar.cmpi .ne v170 c0_i32_146
  let v175 : BitVec 1 := Scalar.andi v174 v171
  let v176 : BitVec 32 := Scalar.addi v170 v169
  let v177 : BitVec 32 := Scalar.select v175 v176 v170
  let c256_i32_149 : BitVec 32 := 256#32
  let v178 : BitVec 32 := Scalar.muli v177 c256_i32_149
  let v179 : Index := Scalar.indexCast v178
  let c0_150 : Index := 0#32
  ![v179.toNat, 0]
def k0_dev11 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_204 : BitVec 32 := 1#32
  let v219 : BitVec 32 := Scalar.muli v14 c1_i32_204
  let v220 : BitVec 32 := Scalar.addi c0_i32_205 v219
  v220.toNat
def k0_dev12 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_208 : BitVec 32 := 1#32
  let v223 : BitVec 32 := Scalar.muli v25 c1_i32_208
  let v224 : BitVec 32 := Scalar.addi c0_i32_209 v223
  v224.toNat
def k0_dev13 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_234 : BitVec 32 := 1#32
  let v241 : BitVec 32 := Scalar.muli v25 c1_i32_234
  let v242 : BitVec 32 := Scalar.addi c0_i32_235 v241
  v242.toNat
def k0_dev14 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_249 : BitVec 32 := 1#32
  let v253 : BitVec 32 := Scalar.muli v14 c1_i32_249
  let v254 : BitVec 32 := Scalar.addi c0_i32_250 v253
  v254.toNat
def k0_dev15 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_303 : BitVec 32 := 1#32
  let v293 : BitVec 32 := Scalar.muli v14 c1_i32_303
  let v294 : BitVec 32 := Scalar.addi c0_i32_304 v293
  v294.toNat
def k0_dev16 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_307 : BitVec 32 := 1#32
  let v297 : BitVec 32 := Scalar.muli v25 c1_i32_307
  let v298 : BitVec 32 := Scalar.addi c0_i32_308 v297
  v298.toNat
def k0_dev17 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_334 : BitVec 32 := 1#32
  let v315 : BitVec 32 := Scalar.muli v25 c1_i32_334
  let v316 : BitVec 32 := Scalar.addi c0_i32_335 v315
  v316.toNat
def k0_dev18 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_349 : BitVec 32 := 1#32
  let v327 : BitVec 32 := Scalar.muli v14 c1_i32_349
  let v328 : BitVec 32 := Scalar.addi c0_i32_350 v327
  v328.toNat
def k0_dev19 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_433 : BitVec 32 := 1#32
  let v413 : BitVec 32 := Scalar.muli v14 c1_i32_433
  let v414 : BitVec 32 := Scalar.addi c0_i32_434 v413
  v414.toNat
def k0_dev20 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_437 : BitVec 32 := 1#32
  let v417 : BitVec 32 := Scalar.muli v25 c1_i32_437
  let v418 : BitVec 32 := Scalar.addi c0_i32_438 v417
  v418.toNat
def k0_dev21 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_464 : BitVec 32 := 1#32
  let v435 : BitVec 32 := Scalar.muli v25 c1_i32_464
  let v436 : BitVec 32 := Scalar.addi c0_i32_465 v435
  v436.toNat
def k0_dev22 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_479 : BitVec 32 := 1#32
  let v447 : BitVec 32 := Scalar.muli v14 c1_i32_479
  let v448 : BitVec 32 := Scalar.addi c0_i32_480 v447
  v448.toNat
def k0_dev23 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_533 : BitVec 32 := 1#32
  let v487 : BitVec 32 := Scalar.muli v14 c1_i32_533
  let v488 : BitVec 32 := Scalar.addi c0_i32_534 v487
  v488.toNat
def k0_dev24 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_537 : BitVec 32 := 1#32
  let v491 : BitVec 32 := Scalar.muli v25 c1_i32_537
  let v492 : BitVec 32 := Scalar.addi c0_i32_538 v491
  v492.toNat
def k0_dev25 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_564 : BitVec 32 := 1#32
  let v509 : BitVec 32 := Scalar.muli v25 c1_i32_564
  let v510 : BitVec 32 := Scalar.addi c0_i32_565 v509
  v510.toNat
def k0_dev26 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_579 : BitVec 32 := 1#32
  let v521 : BitVec 32 := Scalar.muli v14 c1_i32_579
  let v522 : BitVec 32 := Scalar.addi c0_i32_580 v521
  v522.toNat
def k0_dev27 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_663 : BitVec 32 := 1#32
  let v607 : BitVec 32 := Scalar.muli v14 c1_i32_663
  let v608 : BitVec 32 := Scalar.addi c0_i32_664 v607
  v608.toNat
def k0_dev28 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_667 : BitVec 32 := 1#32
  let v611 : BitVec 32 := Scalar.muli v25 c1_i32_667
  let v612 : BitVec 32 := Scalar.addi c0_i32_668 v611
  v612.toNat
def k0_dev29 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_694 : BitVec 32 := 1#32
  let v629 : BitVec 32 := Scalar.muli v25 c1_i32_694
  let v630 : BitVec 32 := Scalar.addi c0_i32_695 v629
  v630.toNat
def k0_dev30 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_709 : BitVec 32 := 1#32
  let v641 : BitVec 32 := Scalar.muli v14 c1_i32_709
  let v642 : BitVec 32 := Scalar.addi c0_i32_710 v641
  v642.toNat
def k0_dev31 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_763 : BitVec 32 := 1#32
  let v681 : BitVec 32 := Scalar.muli v14 c1_i32_763
  let v682 : BitVec 32 := Scalar.addi c0_i32_764 v681
  v682.toNat
def k0_dev32 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_767 : BitVec 32 := 1#32
  let v685 : BitVec 32 := Scalar.muli v25 c1_i32_767
  let v686 : BitVec 32 := Scalar.addi c0_i32_768 v685
  v686.toNat
def k0_dev33 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_794 : BitVec 32 := 1#32
  let v703 : BitVec 32 := Scalar.muli v25 c1_i32_794
  let v704 : BitVec 32 := Scalar.addi c0_i32_795 v703
  v704.toNat
def k0_dev34 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_809 : BitVec 32 := 1#32
  let v715 : BitVec 32 := Scalar.muli v14 c1_i32_809
  let v716 : BitVec 32 := Scalar.addi c0_i32_810 v715
  v716.toNat
def k0_dev35 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_892 : BitVec 32 := 1#32
  let v801 : BitVec 32 := Scalar.muli v14 c1_i32_892
  let v802 : BitVec 32 := Scalar.addi c0_i32_893 v801
  v802.toNat
def k0_dev36 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_896 : BitVec 32 := 1#32
  let v805 : BitVec 32 := Scalar.muli v25 c1_i32_896
  let v806 : BitVec 32 := Scalar.addi c0_i32_897 v805
  v806.toNat
def k0_dev37 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_923 : BitVec 32 := 1#32
  let v823 : BitVec 32 := Scalar.muli v25 c1_i32_923
  let v824 : BitVec 32 := Scalar.addi c0_i32_924 v823
  v824.toNat
def k0_dev38 (d0 : Dev nD) : Nat :=
  let c0_i32_939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_938 : BitVec 32 := 1#32
  let v835 : BitVec 32 := Scalar.muli v14 c1_i32_938
  let v836 : BitVec 32 := Scalar.addi c0_i32_939 v835
  v836.toNat
def k0_dev39 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_992 : BitVec 32 := 1#32
  let v875 : BitVec 32 := Scalar.muli v14 c1_i32_992
  let v876 : BitVec 32 := Scalar.addi c0_i32_993 v875
  v876.toNat
def k0_dev40 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_996 : BitVec 32 := 1#32
  let v879 : BitVec 32 := Scalar.muli v25 c1_i32_996
  let v880 : BitVec 32 := Scalar.addi c0_i32_997 v879
  v880.toNat
def k0_dev41 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1023 : BitVec 32 := 1#32
  let v897 : BitVec 32 := Scalar.muli v25 c1_i32_1023
  let v898 : BitVec 32 := Scalar.addi c0_i32_1024 v897
  v898.toNat
def k0_dev42 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1038 : BitVec 32 := 1#32
  let v909 : BitVec 32 := Scalar.muli v14 c1_i32_1038
  let v910 : BitVec 32 := Scalar.addi c0_i32_1039 v909
  v910.toNat
def k0_dev43 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1121 : BitVec 32 := 1#32
  let v995 : BitVec 32 := Scalar.muli v14 c1_i32_1121
  let v996 : BitVec 32 := Scalar.addi c0_i32_1122 v995
  v996.toNat
def k0_dev44 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1125 : BitVec 32 := 1#32
  let v999 : BitVec 32 := Scalar.muli v25 c1_i32_1125
  let v1000 : BitVec 32 := Scalar.addi c0_i32_1126 v999
  v1000.toNat
def k0_dev45 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1152 : BitVec 32 := 1#32
  let v1017 : BitVec 32 := Scalar.muli v25 c1_i32_1152
  let v1018 : BitVec 32 := Scalar.addi c0_i32_1153 v1017
  v1018.toNat
def k0_dev46 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1167 : BitVec 32 := 1#32
  let v1029 : BitVec 32 := Scalar.muli v14 c1_i32_1167
  let v1030 : BitVec 32 := Scalar.addi c0_i32_1168 v1029
  v1030.toNat
def k0_dev47 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1221 : BitVec 32 := 1#32
  let v1069 : BitVec 32 := Scalar.muli v14 c1_i32_1221
  let v1070 : BitVec 32 := Scalar.addi c0_i32_1222 v1069
  v1070.toNat
def k0_dev48 (d0 : Dev nD) : Nat :=
  let c0_i32_1226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1225 : BitVec 32 := 1#32
  let v1073 : BitVec 32 := Scalar.muli v25 c1_i32_1225
  let v1074 : BitVec 32 := Scalar.addi c0_i32_1226 v1073
  v1074.toNat
def k0_dev49 (d0 : Dev nD) : Nat :=
  let c0_i32_1253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1252 : BitVec 32 := 1#32
  let v1091 : BitVec 32 := Scalar.muli v25 c1_i32_1252
  let v1092 : BitVec 32 := Scalar.addi c0_i32_1253 v1091
  v1092.toNat
def k0_dev50 (d0 : Dev nD) : Nat :=
  let c0_i32_1268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1267 : BitVec 32 := 1#32
  let v1103 : BitVec 32 := Scalar.muli v14 c1_i32_1267
  let v1104 : BitVec 32 := Scalar.addi c0_i32_1268 v1103
  v1104.toNat
def k0_dev51 (d0 : Dev nD) : Nat :=
  let c0_i32_1351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1350 : BitVec 32 := 1#32
  let v1189 : BitVec 32 := Scalar.muli v14 c1_i32_1350
  let v1190 : BitVec 32 := Scalar.addi c0_i32_1351 v1189
  v1190.toNat
def k0_dev52 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1354 : BitVec 32 := 1#32
  let v1193 : BitVec 32 := Scalar.muli v25 c1_i32_1354
  let v1194 : BitVec 32 := Scalar.addi c0_i32_1355 v1193
  v1194.toNat
def k0_dev53 (d0 : Dev nD) : Nat :=
  let c0_i32_1382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1381 : BitVec 32 := 1#32
  let v1211 : BitVec 32 := Scalar.muli v25 c1_i32_1381
  let v1212 : BitVec 32 := Scalar.addi c0_i32_1382 v1211
  v1212.toNat
def k0_dev54 (d0 : Dev nD) : Nat :=
  let c0_i32_1397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1396 : BitVec 32 := 1#32
  let v1223 : BitVec 32 := Scalar.muli v14 c1_i32_1396
  let v1224 : BitVec 32 := Scalar.addi c0_i32_1397 v1223
  v1224.toNat
def k0_dev55 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1450 : BitVec 32 := 1#32
  let v1263 : BitVec 32 := Scalar.muli v14 c1_i32_1450
  let v1264 : BitVec 32 := Scalar.addi c0_i32_1451 v1263
  v1264.toNat
def k0_dev56 (d0 : Dev nD) : Nat :=
  let c0_i32_1455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1454 : BitVec 32 := 1#32
  let v1267 : BitVec 32 := Scalar.muli v25 c1_i32_1454
  let v1268 : BitVec 32 := Scalar.addi c0_i32_1455 v1267
  v1268.toNat
def k0_dev57 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1481 : BitVec 32 := 1#32
  let v1285 : BitVec 32 := Scalar.muli v25 c1_i32_1481
  let v1286 : BitVec 32 := Scalar.addi c0_i32_1482 v1285
  v1286.toNat
def k0_dev58 (d0 : Dev nD) : Nat :=
  let c0_i32_1497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1496 : BitVec 32 := 1#32
  let v1297 : BitVec 32 := Scalar.muli v14 c1_i32_1496
  let v1298 : BitVec 32 := Scalar.addi c0_i32_1497 v1297
  v1298.toNat
def k0_dev59 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1579 : BitVec 32 := 1#32
  let v1383 : BitVec 32 := Scalar.muli v14 c1_i32_1579
  let v1384 : BitVec 32 := Scalar.addi c0_i32_1580 v1383
  v1384.toNat
def k0_dev60 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1583 : BitVec 32 := 1#32
  let v1387 : BitVec 32 := Scalar.muli v25 c1_i32_1583
  let v1388 : BitVec 32 := Scalar.addi c0_i32_1584 v1387
  v1388.toNat
def k0_dev61 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1610 : BitVec 32 := 1#32
  let v1405 : BitVec 32 := Scalar.muli v25 c1_i32_1610
  let v1406 : BitVec 32 := Scalar.addi c0_i32_1611 v1405
  v1406.toNat
def k0_dev62 (d0 : Dev nD) : Nat :=
  let c0_i32_1626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1625 : BitVec 32 := 1#32
  let v1417 : BitVec 32 := Scalar.muli v14 c1_i32_1625
  let v1418 : BitVec 32 := Scalar.addi c0_i32_1626 v1417
  v1418.toNat
def k0_dev63 (d0 : Dev nD) : Nat :=
  let c0_i32_1680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1679 : BitVec 32 := 1#32
  let v1457 : BitVec 32 := Scalar.muli v14 c1_i32_1679
  let v1458 : BitVec 32 := Scalar.addi c0_i32_1680 v1457
  v1458.toNat
def k0_dev64 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1683 : BitVec 32 := 1#32
  let v1461 : BitVec 32 := Scalar.muli v25 c1_i32_1683
  let v1462 : BitVec 32 := Scalar.addi c0_i32_1684 v1461
  v1462.toNat
def k0_dev65 (d0 : Dev nD) : Nat :=
  let c0_i32_1711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1710 : BitVec 32 := 1#32
  let v1479 : BitVec 32 := Scalar.muli v25 c1_i32_1710
  let v1480 : BitVec 32 := Scalar.addi c0_i32_1711 v1479
  v1480.toNat
def k0_dev66 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1725 : BitVec 32 := 1#32
  let v1491 : BitVec 32 := Scalar.muli v14 c1_i32_1725
  let v1492 : BitVec 32 := Scalar.addi c0_i32_1726 v1491
  v1492.toNat
def k0_dev67 (d0 : Dev nD) : Nat :=
  let c0_i32_1809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1808 : BitVec 32 := 1#32
  let v1577 : BitVec 32 := Scalar.muli v14 c1_i32_1808
  let v1578 : BitVec 32 := Scalar.addi c0_i32_1809 v1577
  v1578.toNat
def k0_dev68 (d0 : Dev nD) : Nat :=
  let c0_i32_1813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1812 : BitVec 32 := 1#32
  let v1581 : BitVec 32 := Scalar.muli v25 c1_i32_1812
  let v1582 : BitVec 32 := Scalar.addi c0_i32_1813 v1581
  v1582.toNat
def k0_dev69 (d0 : Dev nD) : Nat :=
  let c0_i32_1840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1839 : BitVec 32 := 1#32
  let v1599 : BitVec 32 := Scalar.muli v25 c1_i32_1839
  let v1600 : BitVec 32 := Scalar.addi c0_i32_1840 v1599
  v1600.toNat
def k0_dev70 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1854 : BitVec 32 := 1#32
  let v1611 : BitVec 32 := Scalar.muli v14 c1_i32_1854
  let v1612 : BitVec 32 := Scalar.addi c0_i32_1855 v1611
  v1612.toNat
def k0_dev71 (d0 : Dev nD) : Nat :=
  let c0_i32_1909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1908 : BitVec 32 := 1#32
  let v1651 : BitVec 32 := Scalar.muli v14 c1_i32_1908
  let v1652 : BitVec 32 := Scalar.addi c0_i32_1909 v1651
  v1652.toNat
def k0_dev72 (d0 : Dev nD) : Nat :=
  let c0_i32_1913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1912 : BitVec 32 := 1#32
  let v1655 : BitVec 32 := Scalar.muli v25 c1_i32_1912
  let v1656 : BitVec 32 := Scalar.addi c0_i32_1913 v1655
  v1656.toNat
def k0_dev73 (d0 : Dev nD) : Nat :=
  let c0_i32_1940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1939 : BitVec 32 := 1#32
  let v1673 : BitVec 32 := Scalar.muli v25 c1_i32_1939
  let v1674 : BitVec 32 := Scalar.addi c0_i32_1940 v1673
  v1674.toNat
def k0_dev74 (d0 : Dev nD) : Nat :=
  let c0_i32_1955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1954 : BitVec 32 := 1#32
  let v1685 : BitVec 32 := Scalar.muli v14 c1_i32_1954
  let v1686 : BitVec 32 := Scalar.addi c0_i32_1955 v1685
  v1686.toNat
def k0_dev75 (d0 : Dev nD) : Nat :=
  let c0_i32_2038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2037 : BitVec 32 := 1#32
  let v1771 : BitVec 32 := Scalar.muli v14 c1_i32_2037
  let v1772 : BitVec 32 := Scalar.addi c0_i32_2038 v1771
  v1772.toNat
def k0_dev76 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2041 : BitVec 32 := 1#32
  let v1775 : BitVec 32 := Scalar.muli v25 c1_i32_2041
  let v1776 : BitVec 32 := Scalar.addi c0_i32_2042 v1775
  v1776.toNat
def k0_dev77 (d0 : Dev nD) : Nat :=
  let c0_i32_2069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2068 : BitVec 32 := 1#32
  let v1793 : BitVec 32 := Scalar.muli v25 c1_i32_2068
  let v1794 : BitVec 32 := Scalar.addi c0_i32_2069 v1793
  v1794.toNat
def k0_dev78 (d0 : Dev nD) : Nat :=
  let c0_i32_2084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2083 : BitVec 32 := 1#32
  let v1805 : BitVec 32 := Scalar.muli v14 c1_i32_2083
  let v1806 : BitVec 32 := Scalar.addi c0_i32_2084 v1805
  v1806.toNat
def k0_dev79 (d0 : Dev nD) : Nat :=
  let c0_i32_2138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2137 : BitVec 32 := 1#32
  let v1845 : BitVec 32 := Scalar.muli v14 c1_i32_2137
  let v1846 : BitVec 32 := Scalar.addi c0_i32_2138 v1845
  v1846.toNat
def k0_dev80 (d0 : Dev nD) : Nat :=
  let c0_i32_2142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2141 : BitVec 32 := 1#32
  let v1849 : BitVec 32 := Scalar.muli v25 c1_i32_2141
  let v1850 : BitVec 32 := Scalar.addi c0_i32_2142 v1849
  v1850.toNat
def k0_dev81 (d0 : Dev nD) : Nat :=
  let c0_i32_2169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2168 : BitVec 32 := 1#32
  let v1867 : BitVec 32 := Scalar.muli v25 c1_i32_2168
  let v1868 : BitVec 32 := Scalar.addi c0_i32_2169 v1867
  v1868.toNat
def k0_dev82 (d0 : Dev nD) : Nat :=
  let c0_i32_2184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2183 : BitVec 32 := 1#32
  let v1879 : BitVec 32 := Scalar.muli v14 c1_i32_2183
  let v1880 : BitVec 32 := Scalar.addi c0_i32_2184 v1879
  v1880.toNat
def k0_dev83 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2266 : BitVec 32 := 1#32
  let v1965 : BitVec 32 := Scalar.muli v14 c1_i32_2266
  let v1966 : BitVec 32 := Scalar.addi c0_i32_2267 v1965
  v1966.toNat
def k0_dev84 (d0 : Dev nD) : Nat :=
  let c0_i32_2271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2270 : BitVec 32 := 1#32
  let v1969 : BitVec 32 := Scalar.muli v25 c1_i32_2270
  let v1970 : BitVec 32 := Scalar.addi c0_i32_2271 v1969
  v1970.toNat
def k0_dev85 (d0 : Dev nD) : Nat :=
  let c0_i32_2298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2297 : BitVec 32 := 1#32
  let v1987 : BitVec 32 := Scalar.muli v25 c1_i32_2297
  let v1988 : BitVec 32 := Scalar.addi c0_i32_2298 v1987
  v1988.toNat
def k0_dev86 (d0 : Dev nD) : Nat :=
  let c0_i32_2313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2312 : BitVec 32 := 1#32
  let v1999 : BitVec 32 := Scalar.muli v14 c1_i32_2312
  let v2000 : BitVec 32 := Scalar.addi c0_i32_2313 v1999
  v2000.toNat
def k0_dev87 (d0 : Dev nD) : Nat :=
  let c0_i32_2367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2366 : BitVec 32 := 1#32
  let v2039 : BitVec 32 := Scalar.muli v14 c1_i32_2366
  let v2040 : BitVec 32 := Scalar.addi c0_i32_2367 v2039
  v2040.toNat
def k0_dev88 (d0 : Dev nD) : Nat :=
  let c0_i32_2371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2370 : BitVec 32 := 1#32
  let v2043 : BitVec 32 := Scalar.muli v25 c1_i32_2370
  let v2044 : BitVec 32 := Scalar.addi c0_i32_2371 v2043
  v2044.toNat
def k0_dev89 (d0 : Dev nD) : Nat :=
  let c0_i32_2398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2397 : BitVec 32 := 1#32
  let v2061 : BitVec 32 := Scalar.muli v25 c1_i32_2397
  let v2062 : BitVec 32 := Scalar.addi c0_i32_2398 v2061
  v2062.toNat
def k0_dev90 (d0 : Dev nD) : Nat :=
  let c0_i32_2413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2412 : BitVec 32 := 1#32
  let v2073 : BitVec 32 := Scalar.muli v14 c1_i32_2412
  let v2074 : BitVec 32 := Scalar.addi c0_i32_2413 v2073
  v2074.toNat
def k0_dev91 (d0 : Dev nD) : Nat :=
  let c0_i32_2496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2495 : BitVec 32 := 1#32
  let v2159 : BitVec 32 := Scalar.muli v14 c1_i32_2495
  let v2160 : BitVec 32 := Scalar.addi c0_i32_2496 v2159
  v2160.toNat
def k0_dev92 (d0 : Dev nD) : Nat :=
  let c0_i32_2500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2499 : BitVec 32 := 1#32
  let v2163 : BitVec 32 := Scalar.muli v25 c1_i32_2499
  let v2164 : BitVec 32 := Scalar.addi c0_i32_2500 v2163
  v2164.toNat
def k0_dev93 (d0 : Dev nD) : Nat :=
  let c0_i32_2527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2526 : BitVec 32 := 1#32
  let v2181 : BitVec 32 := Scalar.muli v25 c1_i32_2526
  let v2182 : BitVec 32 := Scalar.addi c0_i32_2527 v2181
  v2182.toNat
def k0_dev94 (d0 : Dev nD) : Nat :=
  let c0_i32_2542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2541 : BitVec 32 := 1#32
  let v2193 : BitVec 32 := Scalar.muli v14 c1_i32_2541
  let v2194 : BitVec 32 := Scalar.addi c0_i32_2542 v2193
  v2194.toNat
def k0_dev95 (d0 : Dev nD) : Nat :=
  let c0_i32_2596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2595 : BitVec 32 := 1#32
  let v2233 : BitVec 32 := Scalar.muli v14 c1_i32_2595
  let v2234 : BitVec 32 := Scalar.addi c0_i32_2596 v2233
  v2234.toNat
def k0_dev96 (d0 : Dev nD) : Nat :=
  let c0_i32_2600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2599 : BitVec 32 := 1#32
  let v2237 : BitVec 32 := Scalar.muli v25 c1_i32_2599
  let v2238 : BitVec 32 := Scalar.addi c0_i32_2600 v2237
  v2238.toNat
def k0_dev97 (d0 : Dev nD) : Nat :=
  let c0_i32_2627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2626 : BitVec 32 := 1#32
  let v2255 : BitVec 32 := Scalar.muli v25 c1_i32_2626
  let v2256 : BitVec 32 := Scalar.addi c0_i32_2627 v2255
  v2256.toNat
def k0_dev98 (d0 : Dev nD) : Nat :=
  let c0_i32_2642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2641 : BitVec 32 := 1#32
  let v2267 : BitVec 32 := Scalar.muli v14 c1_i32_2641
  let v2268 : BitVec 32 := Scalar.addi c0_i32_2642 v2267
  v2268.toNat
def k0_dev99 (d0 : Dev nD) : Nat :=
  let c0_i32_2725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2724 : BitVec 32 := 1#32
  let v2353 : BitVec 32 := Scalar.muli v14 c1_i32_2724
  let v2354 : BitVec 32 := Scalar.addi c0_i32_2725 v2353
  v2354.toNat
def k0_dev100 (d0 : Dev nD) : Nat :=
  let c0_i32_2729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2728 : BitVec 32 := 1#32
  let v2357 : BitVec 32 := Scalar.muli v25 c1_i32_2728
  let v2358 : BitVec 32 := Scalar.addi c0_i32_2729 v2357
  v2358.toNat
def k0_dev101 (d0 : Dev nD) : Nat :=
  let c0_i32_2756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2755 : BitVec 32 := 1#32
  let v2375 : BitVec 32 := Scalar.muli v25 c1_i32_2755
  let v2376 : BitVec 32 := Scalar.addi c0_i32_2756 v2375
  v2376.toNat
def k0_dev102 (d0 : Dev nD) : Nat :=
  let c0_i32_2771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2770 : BitVec 32 := 1#32
  let v2387 : BitVec 32 := Scalar.muli v14 c1_i32_2770
  let v2388 : BitVec 32 := Scalar.addi c0_i32_2771 v2387
  v2388.toNat
def k0_dev103 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2824 : BitVec 32 := 1#32
  let v2427 : BitVec 32 := Scalar.muli v14 c1_i32_2824
  let v2428 : BitVec 32 := Scalar.addi c0_i32_2825 v2427
  v2428.toNat
def k0_dev104 (d0 : Dev nD) : Nat :=
  let c0_i32_2829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2828 : BitVec 32 := 1#32
  let v2431 : BitVec 32 := Scalar.muli v25 c1_i32_2828
  let v2432 : BitVec 32 := Scalar.addi c0_i32_2829 v2431
  v2432.toNat
def k0_dev105 (d0 : Dev nD) : Nat :=
  let c0_i32_2856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2855 : BitVec 32 := 1#32
  let v2449 : BitVec 32 := Scalar.muli v25 c1_i32_2855
  let v2450 : BitVec 32 := Scalar.addi c0_i32_2856 v2449
  v2450.toNat
def k0_dev106 (d0 : Dev nD) : Nat :=
  let c0_i32_2871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2870 : BitVec 32 := 1#32
  let v2461 : BitVec 32 := Scalar.muli v14 c1_i32_2870
  let v2462 : BitVec 32 := Scalar.addi c0_i32_2871 v2461
  v2462.toNat
def k0_dev107 (d0 : Dev nD) : Nat :=
  let c0_i32_2954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2953 : BitVec 32 := 1#32
  let v2547 : BitVec 32 := Scalar.muli v14 c1_i32_2953
  let v2548 : BitVec 32 := Scalar.addi c0_i32_2954 v2547
  v2548.toNat
def k0_dev108 (d0 : Dev nD) : Nat :=
  let c0_i32_2958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2957 : BitVec 32 := 1#32
  let v2551 : BitVec 32 := Scalar.muli v25 c1_i32_2957
  let v2552 : BitVec 32 := Scalar.addi c0_i32_2958 v2551
  v2552.toNat
def k0_dev109 (d0 : Dev nD) : Nat :=
  let c0_i32_2985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2984 : BitVec 32 := 1#32
  let v2569 : BitVec 32 := Scalar.muli v25 c1_i32_2984
  let v2570 : BitVec 32 := Scalar.addi c0_i32_2985 v2569
  v2570.toNat
def k0_dev110 (d0 : Dev nD) : Nat :=
  let c0_i32_3000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2999 : BitVec 32 := 1#32
  let v2581 : BitVec 32 := Scalar.muli v14 c1_i32_2999
  let v2582 : BitVec 32 := Scalar.addi c0_i32_3000 v2581
  v2582.toNat
def k0_dev111 (d0 : Dev nD) : Nat :=
  let c0_i32_3054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3053 : BitVec 32 := 1#32
  let v2621 : BitVec 32 := Scalar.muli v14 c1_i32_3053
  let v2622 : BitVec 32 := Scalar.addi c0_i32_3054 v2621
  v2622.toNat
def k0_dev112 (d0 : Dev nD) : Nat :=
  let c0_i32_3058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3057 : BitVec 32 := 1#32
  let v2625 : BitVec 32 := Scalar.muli v25 c1_i32_3057
  let v2626 : BitVec 32 := Scalar.addi c0_i32_3058 v2625
  v2626.toNat
def k0_dev113 (d0 : Dev nD) : Nat :=
  let c0_i32_3085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3084 : BitVec 32 := 1#32
  let v2643 : BitVec 32 := Scalar.muli v25 c1_i32_3084
  let v2644 : BitVec 32 := Scalar.addi c0_i32_3085 v2643
  v2644.toNat
def k0_dev114 (d0 : Dev nD) : Nat :=
  let c0_i32_3100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3099 : BitVec 32 := 1#32
  let v2655 : BitVec 32 := Scalar.muli v14 c1_i32_3099
  let v2656 : BitVec 32 := Scalar.addi c0_i32_3100 v2655
  v2656.toNat
def k0_dev115 (d0 : Dev nD) : Nat :=
  let c0_i32_3183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3182 : BitVec 32 := 1#32
  let v2741 : BitVec 32 := Scalar.muli v14 c1_i32_3182
  let v2742 : BitVec 32 := Scalar.addi c0_i32_3183 v2741
  v2742.toNat
def k0_dev116 (d0 : Dev nD) : Nat :=
  let c0_i32_3187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3186 : BitVec 32 := 1#32
  let v2745 : BitVec 32 := Scalar.muli v25 c1_i32_3186
  let v2746 : BitVec 32 := Scalar.addi c0_i32_3187 v2745
  v2746.toNat
def k0_dev117 (d0 : Dev nD) : Nat :=
  let c0_i32_3214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3213 : BitVec 32 := 1#32
  let v2763 : BitVec 32 := Scalar.muli v25 c1_i32_3213
  let v2764 : BitVec 32 := Scalar.addi c0_i32_3214 v2763
  v2764.toNat
def k0_dev118 (d0 : Dev nD) : Nat :=
  let c0_i32_3229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3228 : BitVec 32 := 1#32
  let v2775 : BitVec 32 := Scalar.muli v14 c1_i32_3228
  let v2776 : BitVec 32 := Scalar.addi c0_i32_3229 v2775
  v2776.toNat
def k0_dev119 (d0 : Dev nD) : Nat :=
  let c0_i32_3283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3282 : BitVec 32 := 1#32
  let v2815 : BitVec 32 := Scalar.muli v14 c1_i32_3282
  let v2816 : BitVec 32 := Scalar.addi c0_i32_3283 v2815
  v2816.toNat
def k0_dev120 (d0 : Dev nD) : Nat :=
  let c0_i32_3287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3286 : BitVec 32 := 1#32
  let v2819 : BitVec 32 := Scalar.muli v25 c1_i32_3286
  let v2820 : BitVec 32 := Scalar.addi c0_i32_3287 v2819
  v2820.toNat
def k0_dev121 (d0 : Dev nD) : Nat :=
  let c0_i32_3314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3313 : BitVec 32 := 1#32
  let v2837 : BitVec 32 := Scalar.muli v25 c1_i32_3313
  let v2838 : BitVec 32 := Scalar.addi c0_i32_3314 v2837
  v2838.toNat
def k0_dev122 (d0 : Dev nD) : Nat :=
  let c0_i32_3329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3328 : BitVec 32 := 1#32
  let v2849 : BitVec 32 := Scalar.muli v14 c1_i32_3328
  let v2850 : BitVec 32 := Scalar.addi c0_i32_3329 v2849
  v2850.toNat
def k0_dev123 (d0 : Dev nD) : Nat :=
  let c0_i32_3412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3411 : BitVec 32 := 1#32
  let v2935 : BitVec 32 := Scalar.muli v14 c1_i32_3411
  let v2936 : BitVec 32 := Scalar.addi c0_i32_3412 v2935
  v2936.toNat
def k0_dev124 (d0 : Dev nD) : Nat :=
  let c0_i32_3416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3415 : BitVec 32 := 1#32
  let v2939 : BitVec 32 := Scalar.muli v25 c1_i32_3415
  let v2940 : BitVec 32 := Scalar.addi c0_i32_3416 v2939
  v2940.toNat
def k0_dev125 (d0 : Dev nD) : Nat :=
  let c0_i32_3443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3442 : BitVec 32 := 1#32
  let v2957 : BitVec 32 := Scalar.muli v25 c1_i32_3442
  let v2958 : BitVec 32 := Scalar.addi c0_i32_3443 v2957
  v2958.toNat
def k0_dev126 (d0 : Dev nD) : Nat :=
  let c0_i32_3458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3457 : BitVec 32 := 1#32
  let v2969 : BitVec 32 := Scalar.muli v14 c1_i32_3457
  let v2970 : BitVec 32 := Scalar.addi c0_i32_3458 v2969
  v2970.toNat
def k0_dev127 (d0 : Dev nD) : Nat :=
  let c0_i32_3512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3511 : BitVec 32 := 1#32
  let v3009 : BitVec 32 := Scalar.muli v14 c1_i32_3511
  let v3010 : BitVec 32 := Scalar.addi c0_i32_3512 v3009
  v3010.toNat
def k0_dev128 (d0 : Dev nD) : Nat :=
  let c0_i32_3516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3515 : BitVec 32 := 1#32
  let v3013 : BitVec 32 := Scalar.muli v25 c1_i32_3515
  let v3014 : BitVec 32 := Scalar.addi c0_i32_3516 v3013
  v3014.toNat
def k0_dev129 (d0 : Dev nD) : Nat :=
  let c0_i32_3543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3542 : BitVec 32 := 1#32
  let v3031 : BitVec 32 := Scalar.muli v25 c1_i32_3542
  let v3032 : BitVec 32 := Scalar.addi c0_i32_3543 v3031
  v3032.toNat
def k0_dev130 (d0 : Dev nD) : Nat :=
  let c0_i32_3558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3557 : BitVec 32 := 1#32
  let v3043 : BitVec 32 := Scalar.muli v14 c1_i32_3557
  let v3044 : BitVec 32 := Scalar.addi c0_i32_3558 v3043
  v3044.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3563 : BitVec 32 := 1#32
  let v3053 : BitVec 32 := Scalar.addi v2 c1_i32_3563
  let c16_i32_3564 : BitVec 32 := 16#32
  let c0_i32_3565 : BitVec 32 := 0#32
  let v3054 : BitVec 1 := Scalar.cmpi .eq c16_i32_3564 c0_i32_3565
  let c1_i32_3566 : BitVec 32 := 1#32
  let v3055 : BitVec 32 := Scalar.select v3054 c1_i32_3566 c16_i32_3564
  let v3056 : BitVec 32 := Scalar.remsi v3053 v3055
  let c0_i32_3568 : BitVec 32 := 0#32
  let v3058 : BitVec 1 := Scalar.cmpi .slt v3056 c0_i32_3568
  let c0_i32_3569 : BitVec 32 := 0#32
  let v3059 : BitVec 1 := Scalar.cmpi .slt v3055 c0_i32_3569
  let v3060 : BitVec 1 := Scalar.xori v3058 v3059
  let c0_i32_3567 : BitVec 32 := 0#32
  let v3057 : BitVec 1 := Scalar.cmpi .ne v3056 c0_i32_3567
  let v3061 : BitVec 1 := Scalar.andi v3060 v3057
  let v3062 : BitVec 32 := Scalar.addi v3056 v3055
  let v3063 : BitVec 32 := Scalar.select v3061 v3062 v3056
  let c256_i32_3577 : BitVec 32 := 256#32
  let v3075 : BitVec 32 := Scalar.muli v3063 c256_i32_3577
  let c0_i32_3579 : BitVec 32 := 0#32
  ![v3075.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3570 : BitVec 32 := 1#32
  let v3064 : BitVec 32 := Scalar.subi v2 c1_i32_3570
  let c16_i32_3571 : BitVec 32 := 16#32
  let c0_i32_3572 : BitVec 32 := 0#32
  let v3065 : BitVec 1 := Scalar.cmpi .eq c16_i32_3571 c0_i32_3572
  let c1_i32_3573 : BitVec 32 := 1#32
  let v3066 : BitVec 32 := Scalar.select v3065 c1_i32_3573 c16_i32_3571
  let v3067 : BitVec 32 := Scalar.remsi v3064 v3066
  let c0_i32_3575 : BitVec 32 := 0#32
  let v3069 : BitVec 1 := Scalar.cmpi .slt v3067 c0_i32_3575
  let c0_i32_3576 : BitVec 32 := 0#32
  let v3070 : BitVec 1 := Scalar.cmpi .slt v3066 c0_i32_3576
  let v3071 : BitVec 1 := Scalar.xori v3069 v3070
  let c0_i32_3574 : BitVec 32 := 0#32
  let v3068 : BitVec 1 := Scalar.cmpi .ne v3067 c0_i32_3574
  let v3072 : BitVec 1 := Scalar.andi v3071 v3068
  let v3073 : BitVec 32 := Scalar.addi v3067 v3066
  let v3074 : BitVec 32 := Scalar.select v3072 v3073 v3067
  let c256_i32_3582 : BitVec 32 := 256#32
  let v3079 : BitVec 32 := Scalar.muli v3074 c256_i32_3582
  let c4096_i32 : BitVec 32 := 4096#32
  ![v3079.toNat, 4096]
def k0_dev131 (d0 : Dev nD) : Nat :=
  let c0_i32_3643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3642 : BitVec 32 := 1#32
  let v3119 : BitVec 32 := Scalar.muli v14 c1_i32_3642
  let v3120 : BitVec 32 := Scalar.addi c0_i32_3643 v3119
  v3120.toNat
def k0_dev132 (d0 : Dev nD) : Nat :=
  let c0_i32_3647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3646 : BitVec 32 := 1#32
  let v3123 : BitVec 32 := Scalar.muli v25 c1_i32_3646
  let v3124 : BitVec 32 := Scalar.addi c0_i32_3647 v3123
  v3124.toNat
def k0_dev133 (d0 : Dev nD) : Nat :=
  let c0_i32_3658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3657 : BitVec 32 := 1#32
  let v3127 : BitVec 32 := Scalar.muli v25 c1_i32_3657
  let v3128 : BitVec 32 := Scalar.addi c0_i32_3658 v3127
  v3128.toNat
def k0_dev134 (d0 : Dev nD) : Nat :=
  let c0_i32_3673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3672 : BitVec 32 := 1#32
  let v3139 : BitVec 32 := Scalar.muli v14 c1_i32_3672
  let v3140 : BitVec 32 := Scalar.addi c0_i32_3673 v3139
  v3140.toNat
def k0_dev135 (d0 : Dev nD) : Nat :=
  let c0_i32_3727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3726 : BitVec 32 := 1#32
  let v3179 : BitVec 32 := Scalar.muli v14 c1_i32_3726
  let v3180 : BitVec 32 := Scalar.addi c0_i32_3727 v3179
  v3180.toNat
def k0_dev136 (d0 : Dev nD) : Nat :=
  let c0_i32_3731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3730 : BitVec 32 := 1#32
  let v3183 : BitVec 32 := Scalar.muli v25 c1_i32_3730
  let v3184 : BitVec 32 := Scalar.addi c0_i32_3731 v3183
  v3184.toNat
def k0_dev137 (d0 : Dev nD) : Nat :=
  let c0_i32_3742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3741 : BitVec 32 := 1#32
  let v3187 : BitVec 32 := Scalar.muli v25 c1_i32_3741
  let v3188 : BitVec 32 := Scalar.addi c0_i32_3742 v3187
  v3188.toNat
def k0_dev138 (d0 : Dev nD) : Nat :=
  let c0_i32_3757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3756 : BitVec 32 := 1#32
  let v3199 : BitVec 32 := Scalar.muli v14 c1_i32_3756
  let v3200 : BitVec 32 := Scalar.addi c0_i32_3757 v3199
  v3200.toNat
def k0_off6 (d0 : Dev nD) (c0_i32_3762 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3209 : BitVec 32 := Scalar.subi v2 c0_i32_3762
  let c16_i32_3763 : BitVec 32 := 16#32
  let c0_i32_3764 : BitVec 32 := 0#32
  let v3210 : BitVec 1 := Scalar.cmpi .eq c16_i32_3763 c0_i32_3764
  let c1_i32_3765 : BitVec 32 := 1#32
  let v3211 : BitVec 32 := Scalar.select v3210 c1_i32_3765 c16_i32_3763
  let v3212 : BitVec 32 := Scalar.remsi v3209 v3211
  let c0_i32_3767 : BitVec 32 := 0#32
  let v3214 : BitVec 1 := Scalar.cmpi .slt v3212 c0_i32_3767
  let c0_i32_3768 : BitVec 32 := 0#32
  let v3215 : BitVec 1 := Scalar.cmpi .slt v3211 c0_i32_3768
  let v3216 : BitVec 1 := Scalar.xori v3214 v3215
  let c0_i32_3766 : BitVec 32 := 0#32
  let v3213 : BitVec 1 := Scalar.cmpi .ne v3212 c0_i32_3766
  let v3217 : BitVec 1 := Scalar.andi v3216 v3213
  let v3218 : BitVec 32 := Scalar.addi v3212 v3211
  let v3219 : BitVec 32 := Scalar.select v3217 v3218 v3212
  let c256_i32_3776 : BitVec 32 := 256#32
  let v3231 : BitVec 32 := Scalar.muli v3219 c256_i32_3776
  let c0_i32_3778 : BitVec 32 := 0#32
  ![v3231.toNat, 0]
def k0_off7 (d0 : Dev nD) (c0_i32_3769 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3220 : BitVec 32 := Scalar.addi v2 c0_i32_3769
  let c16_i32_3770 : BitVec 32 := 16#32
  let c0_i32_3771 : BitVec 32 := 0#32
  let v3221 : BitVec 1 := Scalar.cmpi .eq c16_i32_3770 c0_i32_3771
  let c1_i32_3772 : BitVec 32 := 1#32
  let v3222 : BitVec 32 := Scalar.select v3221 c1_i32_3772 c16_i32_3770
  let v3223 : BitVec 32 := Scalar.remsi v3220 v3222
  let c0_i32_3774 : BitVec 32 := 0#32
  let v3225 : BitVec 1 := Scalar.cmpi .slt v3223 c0_i32_3774
  let c0_i32_3775 : BitVec 32 := 0#32
  let v3226 : BitVec 1 := Scalar.cmpi .slt v3222 c0_i32_3775
  let v3227 : BitVec 1 := Scalar.xori v3225 v3226
  let c0_i32_3773 : BitVec 32 := 0#32
  let v3224 : BitVec 1 := Scalar.cmpi .ne v3223 c0_i32_3773
  let v3228 : BitVec 1 := Scalar.andi v3227 v3224
  let v3229 : BitVec 32 := Scalar.addi v3223 v3222
  let v3230 : BitVec 32 := Scalar.select v3228 v3229 v3223
  let c256_i32_3781 : BitVec 32 := 256#32
  let v3235 : BitVec 32 := Scalar.muli v3230 c256_i32_3781
  let c4096_i32_3783 : BitVec 32 := 4096#32
  ![v3235.toNat, 4096]
def k0_dev139 (d0 : Dev nD) : Nat :=
  let c0_i32_3843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3842 : BitVec 32 := 1#32
  let v3275 : BitVec 32 := Scalar.muli v14 c1_i32_3842
  let v3276 : BitVec 32 := Scalar.addi c0_i32_3843 v3275
  v3276.toNat
def k0_dev140 (d0 : Dev nD) : Nat :=
  let c0_i32_3847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3846 : BitVec 32 := 1#32
  let v3279 : BitVec 32 := Scalar.muli v25 c1_i32_3846
  let v3280 : BitVec 32 := Scalar.addi c0_i32_3847 v3279
  v3280.toNat
def k0_dev141 (d0 : Dev nD) : Nat :=
  let c0_i32_3858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3857 : BitVec 32 := 1#32
  let v3283 : BitVec 32 := Scalar.muli v25 c1_i32_3857
  let v3284 : BitVec 32 := Scalar.addi c0_i32_3858 v3283
  v3284.toNat
def k0_dev142 (d0 : Dev nD) : Nat :=
  let c0_i32_3873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3872 : BitVec 32 := 1#32
  let v3295 : BitVec 32 := Scalar.muli v14 c1_i32_3872
  let v3296 : BitVec 32 := Scalar.addi c0_i32_3873 v3295
  v3296.toNat
def k0_dev143 (d0 : Dev nD) : Nat :=
  let c0_i32_3927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3926 : BitVec 32 := 1#32
  let v3335 : BitVec 32 := Scalar.muli v14 c1_i32_3926
  let v3336 : BitVec 32 := Scalar.addi c0_i32_3927 v3335
  v3336.toNat
def k0_dev144 (d0 : Dev nD) : Nat :=
  let c0_i32_3931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3930 : BitVec 32 := 1#32
  let v3339 : BitVec 32 := Scalar.muli v25 c1_i32_3930
  let v3340 : BitVec 32 := Scalar.addi c0_i32_3931 v3339
  v3340.toNat
def k0_dev145 (d0 : Dev nD) : Nat :=
  let c0_i32_3942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3941 : BitVec 32 := 1#32
  let v3343 : BitVec 32 := Scalar.muli v25 c1_i32_3941
  let v3344 : BitVec 32 := Scalar.addi c0_i32_3942 v3343
  v3344.toNat
def k0_dev146 (d0 : Dev nD) : Nat :=
  let c0_i32_3957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3956 : BitVec 32 := 1#32
  let v3355 : BitVec 32 := Scalar.muli v14 c1_i32_3956
  let v3356 : BitVec 32 := Scalar.addi c0_i32_3957 v3355
  v3356.toNat
def k0_dev147 (d0 : Dev nD) : Nat :=
  let c0_i32_4043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4042 : BitVec 32 := 1#32
  let v3431 : BitVec 32 := Scalar.muli v14 c1_i32_4042
  let v3432 : BitVec 32 := Scalar.addi c0_i32_4043 v3431
  v3432.toNat
def k0_dev148 (d0 : Dev nD) : Nat :=
  let c0_i32_4047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4046 : BitVec 32 := 1#32
  let v3435 : BitVec 32 := Scalar.muli v25 c1_i32_4046
  let v3436 : BitVec 32 := Scalar.addi c0_i32_4047 v3435
  v3436.toNat
def k0_dev149 (d0 : Dev nD) : Nat :=
  let c0_i32_4058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4057 : BitVec 32 := 1#32
  let v3439 : BitVec 32 := Scalar.muli v25 c1_i32_4057
  let v3440 : BitVec 32 := Scalar.addi c0_i32_4058 v3439
  v3440.toNat
def k0_dev150 (d0 : Dev nD) : Nat :=
  let c0_i32_4073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4072 : BitVec 32 := 1#32
  let v3451 : BitVec 32 := Scalar.muli v14 c1_i32_4072
  let v3452 : BitVec 32 := Scalar.addi c0_i32_4073 v3451
  v3452.toNat
def k0_dev151 (d0 : Dev nD) : Nat :=
  let c0_i32_4127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4126 : BitVec 32 := 1#32
  let v3491 : BitVec 32 := Scalar.muli v14 c1_i32_4126
  let v3492 : BitVec 32 := Scalar.addi c0_i32_4127 v3491
  v3492.toNat
def k0_dev152 (d0 : Dev nD) : Nat :=
  let c0_i32_4131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4130 : BitVec 32 := 1#32
  let v3495 : BitVec 32 := Scalar.muli v25 c1_i32_4130
  let v3496 : BitVec 32 := Scalar.addi c0_i32_4131 v3495
  v3496.toNat
def k0_dev153 (d0 : Dev nD) : Nat :=
  let c0_i32_4142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4141 : BitVec 32 := 1#32
  let v3499 : BitVec 32 := Scalar.muli v25 c1_i32_4141
  let v3500 : BitVec 32 := Scalar.addi c0_i32_4142 v3499
  v3500.toNat
def k0_dev154 (d0 : Dev nD) : Nat :=
  let c0_i32_4157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4156 : BitVec 32 := 1#32
  let v3511 : BitVec 32 := Scalar.muli v14 c1_i32_4156
  let v3512 : BitVec 32 := Scalar.addi c0_i32_4157 v3511
  v3512.toNat
def k0_dev155 (d0 : Dev nD) : Nat :=
  let c0_i32_4243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4242 : BitVec 32 := 1#32
  let v3587 : BitVec 32 := Scalar.muli v14 c1_i32_4242
  let v3588 : BitVec 32 := Scalar.addi c0_i32_4243 v3587
  v3588.toNat
def k0_dev156 (d0 : Dev nD) : Nat :=
  let c0_i32_4247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4246 : BitVec 32 := 1#32
  let v3591 : BitVec 32 := Scalar.muli v25 c1_i32_4246
  let v3592 : BitVec 32 := Scalar.addi c0_i32_4247 v3591
  v3592.toNat
def k0_dev157 (d0 : Dev nD) : Nat :=
  let c0_i32_4258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4257 : BitVec 32 := 1#32
  let v3595 : BitVec 32 := Scalar.muli v25 c1_i32_4257
  let v3596 : BitVec 32 := Scalar.addi c0_i32_4258 v3595
  v3596.toNat
def k0_dev158 (d0 : Dev nD) : Nat :=
  let c0_i32_4273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4272 : BitVec 32 := 1#32
  let v3607 : BitVec 32 := Scalar.muli v14 c1_i32_4272
  let v3608 : BitVec 32 := Scalar.addi c0_i32_4273 v3607
  v3608.toNat
def k0_dev159 (d0 : Dev nD) : Nat :=
  let c0_i32_4327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4326 : BitVec 32 := 1#32
  let v3647 : BitVec 32 := Scalar.muli v14 c1_i32_4326
  let v3648 : BitVec 32 := Scalar.addi c0_i32_4327 v3647
  v3648.toNat
def k0_dev160 (d0 : Dev nD) : Nat :=
  let c0_i32_4331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4330 : BitVec 32 := 1#32
  let v3651 : BitVec 32 := Scalar.muli v25 c1_i32_4330
  let v3652 : BitVec 32 := Scalar.addi c0_i32_4331 v3651
  v3652.toNat
def k0_dev161 (d0 : Dev nD) : Nat :=
  let c0_i32_4342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4341 : BitVec 32 := 1#32
  let v3655 : BitVec 32 := Scalar.muli v25 c1_i32_4341
  let v3656 : BitVec 32 := Scalar.addi c0_i32_4342 v3655
  v3656.toNat
def k0_dev162 (d0 : Dev nD) : Nat :=
  let c0_i32_4357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4356 : BitVec 32 := 1#32
  let v3667 : BitVec 32 := Scalar.muli v14 c1_i32_4356
  let v3668 : BitVec 32 := Scalar.addi c0_i32_4357 v3667
  v3668.toNat
def k0_dev163 (d0 : Dev nD) : Nat :=
  let c0_i32_4443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4442 : BitVec 32 := 1#32
  let v3743 : BitVec 32 := Scalar.muli v14 c1_i32_4442
  let v3744 : BitVec 32 := Scalar.addi c0_i32_4443 v3743
  v3744.toNat
def k0_dev164 (d0 : Dev nD) : Nat :=
  let c0_i32_4447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4446 : BitVec 32 := 1#32
  let v3747 : BitVec 32 := Scalar.muli v25 c1_i32_4446
  let v3748 : BitVec 32 := Scalar.addi c0_i32_4447 v3747
  v3748.toNat
def k0_dev165 (d0 : Dev nD) : Nat :=
  let c0_i32_4458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4457 : BitVec 32 := 1#32
  let v3751 : BitVec 32 := Scalar.muli v25 c1_i32_4457
  let v3752 : BitVec 32 := Scalar.addi c0_i32_4458 v3751
  v3752.toNat
def k0_dev166 (d0 : Dev nD) : Nat :=
  let c0_i32_4473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4472 : BitVec 32 := 1#32
  let v3763 : BitVec 32 := Scalar.muli v14 c1_i32_4472
  let v3764 : BitVec 32 := Scalar.addi c0_i32_4473 v3763
  v3764.toNat
def k0_dev167 (d0 : Dev nD) : Nat :=
  let c0_i32_4527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4526 : BitVec 32 := 1#32
  let v3803 : BitVec 32 := Scalar.muli v14 c1_i32_4526
  let v3804 : BitVec 32 := Scalar.addi c0_i32_4527 v3803
  v3804.toNat
def k0_dev168 (d0 : Dev nD) : Nat :=
  let c0_i32_4531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4530 : BitVec 32 := 1#32
  let v3807 : BitVec 32 := Scalar.muli v25 c1_i32_4530
  let v3808 : BitVec 32 := Scalar.addi c0_i32_4531 v3807
  v3808.toNat
def k0_dev169 (d0 : Dev nD) : Nat :=
  let c0_i32_4542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4541 : BitVec 32 := 1#32
  let v3811 : BitVec 32 := Scalar.muli v25 c1_i32_4541
  let v3812 : BitVec 32 := Scalar.addi c0_i32_4542 v3811
  v3812.toNat
def k0_dev170 (d0 : Dev nD) : Nat :=
  let c0_i32_4557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4556 : BitVec 32 := 1#32
  let v3823 : BitVec 32 := Scalar.muli v14 c1_i32_4556
  let v3824 : BitVec 32 := Scalar.addi c0_i32_4557 v3823
  v3824.toNat
def k0_dev171 (d0 : Dev nD) : Nat :=
  let c0_i32_4643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4642 : BitVec 32 := 1#32
  let v3899 : BitVec 32 := Scalar.muli v14 c1_i32_4642
  let v3900 : BitVec 32 := Scalar.addi c0_i32_4643 v3899
  v3900.toNat
def k0_dev172 (d0 : Dev nD) : Nat :=
  let c0_i32_4647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4646 : BitVec 32 := 1#32
  let v3903 : BitVec 32 := Scalar.muli v25 c1_i32_4646
  let v3904 : BitVec 32 := Scalar.addi c0_i32_4647 v3903
  v3904.toNat
def k0_dev173 (d0 : Dev nD) : Nat :=
  let c0_i32_4658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4657 : BitVec 32 := 1#32
  let v3907 : BitVec 32 := Scalar.muli v25 c1_i32_4657
  let v3908 : BitVec 32 := Scalar.addi c0_i32_4658 v3907
  v3908.toNat
def k0_dev174 (d0 : Dev nD) : Nat :=
  let c0_i32_4673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4672 : BitVec 32 := 1#32
  let v3919 : BitVec 32 := Scalar.muli v14 c1_i32_4672
  let v3920 : BitVec 32 := Scalar.addi c0_i32_4673 v3919
  v3920.toNat
def k0_dev175 (d0 : Dev nD) : Nat :=
  let c0_i32_4727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4726 : BitVec 32 := 1#32
  let v3959 : BitVec 32 := Scalar.muli v14 c1_i32_4726
  let v3960 : BitVec 32 := Scalar.addi c0_i32_4727 v3959
  v3960.toNat
def k0_dev176 (d0 : Dev nD) : Nat :=
  let c0_i32_4731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4730 : BitVec 32 := 1#32
  let v3963 : BitVec 32 := Scalar.muli v25 c1_i32_4730
  let v3964 : BitVec 32 := Scalar.addi c0_i32_4731 v3963
  v3964.toNat
def k0_dev177 (d0 : Dev nD) : Nat :=
  let c0_i32_4742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4741 : BitVec 32 := 1#32
  let v3967 : BitVec 32 := Scalar.muli v25 c1_i32_4741
  let v3968 : BitVec 32 := Scalar.addi c0_i32_4742 v3967
  v3968.toNat
def k0_dev178 (d0 : Dev nD) : Nat :=
  let c0_i32_4757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4756 : BitVec 32 := 1#32
  let v3979 : BitVec 32 := Scalar.muli v14 c1_i32_4756
  let v3980 : BitVec 32 := Scalar.addi c0_i32_4757 v3979
  v3980.toNat
def k0_dev179 (d0 : Dev nD) : Nat :=
  let c0_i32_4843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4842 : BitVec 32 := 1#32
  let v4055 : BitVec 32 := Scalar.muli v14 c1_i32_4842
  let v4056 : BitVec 32 := Scalar.addi c0_i32_4843 v4055
  v4056.toNat
def k0_dev180 (d0 : Dev nD) : Nat :=
  let c0_i32_4847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4846 : BitVec 32 := 1#32
  let v4059 : BitVec 32 := Scalar.muli v25 c1_i32_4846
  let v4060 : BitVec 32 := Scalar.addi c0_i32_4847 v4059
  v4060.toNat
def k0_dev181 (d0 : Dev nD) : Nat :=
  let c0_i32_4858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4857 : BitVec 32 := 1#32
  let v4063 : BitVec 32 := Scalar.muli v25 c1_i32_4857
  let v4064 : BitVec 32 := Scalar.addi c0_i32_4858 v4063
  v4064.toNat
def k0_dev182 (d0 : Dev nD) : Nat :=
  let c0_i32_4873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4872 : BitVec 32 := 1#32
  let v4075 : BitVec 32 := Scalar.muli v14 c1_i32_4872
  let v4076 : BitVec 32 := Scalar.addi c0_i32_4873 v4075
  v4076.toNat
def k0_dev183 (d0 : Dev nD) : Nat :=
  let c0_i32_4927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4926 : BitVec 32 := 1#32
  let v4115 : BitVec 32 := Scalar.muli v14 c1_i32_4926
  let v4116 : BitVec 32 := Scalar.addi c0_i32_4927 v4115
  v4116.toNat
def k0_dev184 (d0 : Dev nD) : Nat :=
  let c0_i32_4931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4930 : BitVec 32 := 1#32
  let v4119 : BitVec 32 := Scalar.muli v25 c1_i32_4930
  let v4120 : BitVec 32 := Scalar.addi c0_i32_4931 v4119
  v4120.toNat
def k0_dev185 (d0 : Dev nD) : Nat :=
  let c0_i32_4942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4941 : BitVec 32 := 1#32
  let v4123 : BitVec 32 := Scalar.muli v25 c1_i32_4941
  let v4124 : BitVec 32 := Scalar.addi c0_i32_4942 v4123
  v4124.toNat
def k0_dev186 (d0 : Dev nD) : Nat :=
  let c0_i32_4957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4956 : BitVec 32 := 1#32
  let v4135 : BitVec 32 := Scalar.muli v14 c1_i32_4956
  let v4136 : BitVec 32 := Scalar.addi c0_i32_4957 v4135
  v4136.toNat
def k0_dev187 (d0 : Dev nD) : Nat :=
  let c0_i32_5043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5042 : BitVec 32 := 1#32
  let v4211 : BitVec 32 := Scalar.muli v14 c1_i32_5042
  let v4212 : BitVec 32 := Scalar.addi c0_i32_5043 v4211
  v4212.toNat
def k0_dev188 (d0 : Dev nD) : Nat :=
  let c0_i32_5047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5046 : BitVec 32 := 1#32
  let v4215 : BitVec 32 := Scalar.muli v25 c1_i32_5046
  let v4216 : BitVec 32 := Scalar.addi c0_i32_5047 v4215
  v4216.toNat
def k0_dev189 (d0 : Dev nD) : Nat :=
  let c0_i32_5058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5057 : BitVec 32 := 1#32
  let v4219 : BitVec 32 := Scalar.muli v25 c1_i32_5057
  let v4220 : BitVec 32 := Scalar.addi c0_i32_5058 v4219
  v4220.toNat
def k0_dev190 (d0 : Dev nD) : Nat :=
  let c0_i32_5073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5072 : BitVec 32 := 1#32
  let v4231 : BitVec 32 := Scalar.muli v14 c1_i32_5072
  let v4232 : BitVec 32 := Scalar.addi c0_i32_5073 v4231
  v4232.toNat
def k0_dev191 (d0 : Dev nD) : Nat :=
  let c0_i32_5127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5126 : BitVec 32 := 1#32
  let v4271 : BitVec 32 := Scalar.muli v14 c1_i32_5126
  let v4272 : BitVec 32 := Scalar.addi c0_i32_5127 v4271
  v4272.toNat
def k0_dev192 (d0 : Dev nD) : Nat :=
  let c0_i32_5131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5130 : BitVec 32 := 1#32
  let v4275 : BitVec 32 := Scalar.muli v25 c1_i32_5130
  let v4276 : BitVec 32 := Scalar.addi c0_i32_5131 v4275
  v4276.toNat
def k0_dev193 (d0 : Dev nD) : Nat :=
  let c0_i32_5142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5141 : BitVec 32 := 1#32
  let v4279 : BitVec 32 := Scalar.muli v25 c1_i32_5141
  let v4280 : BitVec 32 := Scalar.addi c0_i32_5142 v4279
  v4280.toNat
def k0_dev194 (d0 : Dev nD) : Nat :=
  let c0_i32_5157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5156 : BitVec 32 := 1#32
  let v4291 : BitVec 32 := Scalar.muli v14 c1_i32_5156
  let v4292 : BitVec 32 := Scalar.addi c0_i32_5157 v4291
  v4292.toNat
def k0_dev195 (d0 : Dev nD) : Nat :=
  let c0_i32_5243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5242 : BitVec 32 := 1#32
  let v4367 : BitVec 32 := Scalar.muli v14 c1_i32_5242
  let v4368 : BitVec 32 := Scalar.addi c0_i32_5243 v4367
  v4368.toNat
def k0_dev196 (d0 : Dev nD) : Nat :=
  let c0_i32_5247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5246 : BitVec 32 := 1#32
  let v4371 : BitVec 32 := Scalar.muli v25 c1_i32_5246
  let v4372 : BitVec 32 := Scalar.addi c0_i32_5247 v4371
  v4372.toNat
def k0_dev197 (d0 : Dev nD) : Nat :=
  let c0_i32_5258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5257 : BitVec 32 := 1#32
  let v4375 : BitVec 32 := Scalar.muli v25 c1_i32_5257
  let v4376 : BitVec 32 := Scalar.addi c0_i32_5258 v4375
  v4376.toNat
def k0_dev198 (d0 : Dev nD) : Nat :=
  let c0_i32_5273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5272 : BitVec 32 := 1#32
  let v4387 : BitVec 32 := Scalar.muli v14 c1_i32_5272
  let v4388 : BitVec 32 := Scalar.addi c0_i32_5273 v4387
  v4388.toNat
def k0_dev199 (d0 : Dev nD) : Nat :=
  let c0_i32_5327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5326 : BitVec 32 := 1#32
  let v4427 : BitVec 32 := Scalar.muli v14 c1_i32_5326
  let v4428 : BitVec 32 := Scalar.addi c0_i32_5327 v4427
  v4428.toNat
def k0_dev200 (d0 : Dev nD) : Nat :=
  let c0_i32_5331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5330 : BitVec 32 := 1#32
  let v4431 : BitVec 32 := Scalar.muli v25 c1_i32_5330
  let v4432 : BitVec 32 := Scalar.addi c0_i32_5331 v4431
  v4432.toNat
def k0_dev201 (d0 : Dev nD) : Nat :=
  let c0_i32_5342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5341 : BitVec 32 := 1#32
  let v4435 : BitVec 32 := Scalar.muli v25 c1_i32_5341
  let v4436 : BitVec 32 := Scalar.addi c0_i32_5342 v4435
  v4436.toNat
def k0_dev202 (d0 : Dev nD) : Nat :=
  let c0_i32_5357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5356 : BitVec 32 := 1#32
  let v4447 : BitVec 32 := Scalar.muli v14 c1_i32_5356
  let v4448 : BitVec 32 := Scalar.addi c0_i32_5357 v4447
  v4448.toNat
def k0_dev203 (d0 : Dev nD) : Nat :=
  let c0_i32_5443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5442 : BitVec 32 := 1#32
  let v4523 : BitVec 32 := Scalar.muli v14 c1_i32_5442
  let v4524 : BitVec 32 := Scalar.addi c0_i32_5443 v4523
  v4524.toNat
def k0_dev204 (d0 : Dev nD) : Nat :=
  let c0_i32_5447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5446 : BitVec 32 := 1#32
  let v4527 : BitVec 32 := Scalar.muli v25 c1_i32_5446
  let v4528 : BitVec 32 := Scalar.addi c0_i32_5447 v4527
  v4528.toNat
def k0_dev205 (d0 : Dev nD) : Nat :=
  let c0_i32_5458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5457 : BitVec 32 := 1#32
  let v4531 : BitVec 32 := Scalar.muli v25 c1_i32_5457
  let v4532 : BitVec 32 := Scalar.addi c0_i32_5458 v4531
  v4532.toNat
def k0_dev206 (d0 : Dev nD) : Nat :=
  let c0_i32_5473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5472 : BitVec 32 := 1#32
  let v4543 : BitVec 32 := Scalar.muli v14 c1_i32_5472
  let v4544 : BitVec 32 := Scalar.addi c0_i32_5473 v4543
  v4544.toNat
def k0_dev207 (d0 : Dev nD) : Nat :=
  let c0_i32_5527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5526 : BitVec 32 := 1#32
  let v4583 : BitVec 32 := Scalar.muli v14 c1_i32_5526
  let v4584 : BitVec 32 := Scalar.addi c0_i32_5527 v4583
  v4584.toNat
def k0_dev208 (d0 : Dev nD) : Nat :=
  let c0_i32_5531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5530 : BitVec 32 := 1#32
  let v4587 : BitVec 32 := Scalar.muli v25 c1_i32_5530
  let v4588 : BitVec 32 := Scalar.addi c0_i32_5531 v4587
  v4588.toNat
def k0_dev209 (d0 : Dev nD) : Nat :=
  let c0_i32_5542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5541 : BitVec 32 := 1#32
  let v4591 : BitVec 32 := Scalar.muli v25 c1_i32_5541
  let v4592 : BitVec 32 := Scalar.addi c0_i32_5542 v4591
  v4592.toNat
def k0_dev210 (d0 : Dev nD) : Nat :=
  let c0_i32_5557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5556 : BitVec 32 := 1#32
  let v4603 : BitVec 32 := Scalar.muli v14 c1_i32_5556
  let v4604 : BitVec 32 := Scalar.addi c0_i32_5557 v4603
  v4604.toNat
def k0_dev211 (d0 : Dev nD) : Nat :=
  let c0_i32_5643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5642 : BitVec 32 := 1#32
  let v4679 : BitVec 32 := Scalar.muli v14 c1_i32_5642
  let v4680 : BitVec 32 := Scalar.addi c0_i32_5643 v4679
  v4680.toNat
def k0_dev212 (d0 : Dev nD) : Nat :=
  let c0_i32_5647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5646 : BitVec 32 := 1#32
  let v4683 : BitVec 32 := Scalar.muli v25 c1_i32_5646
  let v4684 : BitVec 32 := Scalar.addi c0_i32_5647 v4683
  v4684.toNat
def k0_dev213 (d0 : Dev nD) : Nat :=
  let c0_i32_5658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5657 : BitVec 32 := 1#32
  let v4687 : BitVec 32 := Scalar.muli v25 c1_i32_5657
  let v4688 : BitVec 32 := Scalar.addi c0_i32_5658 v4687
  v4688.toNat
def k0_dev214 (d0 : Dev nD) : Nat :=
  let c0_i32_5673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5672 : BitVec 32 := 1#32
  let v4699 : BitVec 32 := Scalar.muli v14 c1_i32_5672
  let v4700 : BitVec 32 := Scalar.addi c0_i32_5673 v4699
  v4700.toNat
def k0_dev215 (d0 : Dev nD) : Nat :=
  let c0_i32_5727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5726 : BitVec 32 := 1#32
  let v4739 : BitVec 32 := Scalar.muli v14 c1_i32_5726
  let v4740 : BitVec 32 := Scalar.addi c0_i32_5727 v4739
  v4740.toNat
def k0_dev216 (d0 : Dev nD) : Nat :=
  let c0_i32_5731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5730 : BitVec 32 := 1#32
  let v4743 : BitVec 32 := Scalar.muli v25 c1_i32_5730
  let v4744 : BitVec 32 := Scalar.addi c0_i32_5731 v4743
  v4744.toNat
def k0_dev217 (d0 : Dev nD) : Nat :=
  let c0_i32_5742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5741 : BitVec 32 := 1#32
  let v4747 : BitVec 32 := Scalar.muli v25 c1_i32_5741
  let v4748 : BitVec 32 := Scalar.addi c0_i32_5742 v4747
  v4748.toNat
def k0_dev218 (d0 : Dev nD) : Nat :=
  let c0_i32_5757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5756 : BitVec 32 := 1#32
  let v4759 : BitVec 32 := Scalar.muli v14 c1_i32_5756
  let v4760 : BitVec 32 := Scalar.addi c0_i32_5757 v4759
  v4760.toNat
def k0_dev219 (d0 : Dev nD) : Nat :=
  let c0_i32_5843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5842 : BitVec 32 := 1#32
  let v4835 : BitVec 32 := Scalar.muli v14 c1_i32_5842
  let v4836 : BitVec 32 := Scalar.addi c0_i32_5843 v4835
  v4836.toNat
def k0_dev220 (d0 : Dev nD) : Nat :=
  let c0_i32_5847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5846 : BitVec 32 := 1#32
  let v4839 : BitVec 32 := Scalar.muli v25 c1_i32_5846
  let v4840 : BitVec 32 := Scalar.addi c0_i32_5847 v4839
  v4840.toNat
def k0_dev221 (d0 : Dev nD) : Nat :=
  let c0_i32_5858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5857 : BitVec 32 := 1#32
  let v4843 : BitVec 32 := Scalar.muli v25 c1_i32_5857
  let v4844 : BitVec 32 := Scalar.addi c0_i32_5858 v4843
  v4844.toNat
def k0_dev222 (d0 : Dev nD) : Nat :=
  let c0_i32_5873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5872 : BitVec 32 := 1#32
  let v4855 : BitVec 32 := Scalar.muli v14 c1_i32_5872
  let v4856 : BitVec 32 := Scalar.addi c0_i32_5873 v4855
  v4856.toNat
def k0_dev223 (d0 : Dev nD) : Nat :=
  let c0_i32_5927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5926 : BitVec 32 := 1#32
  let v4895 : BitVec 32 := Scalar.muli v14 c1_i32_5926
  let v4896 : BitVec 32 := Scalar.addi c0_i32_5927 v4895
  v4896.toNat
def k0_dev224 (d0 : Dev nD) : Nat :=
  let c0_i32_5931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5930 : BitVec 32 := 1#32
  let v4899 : BitVec 32 := Scalar.muli v25 c1_i32_5930
  let v4900 : BitVec 32 := Scalar.addi c0_i32_5931 v4899
  v4900.toNat
def k0_dev225 (d0 : Dev nD) : Nat :=
  let c0_i32_5942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5941 : BitVec 32 := 1#32
  let v4903 : BitVec 32 := Scalar.muli v25 c1_i32_5941
  let v4904 : BitVec 32 := Scalar.addi c0_i32_5942 v4903
  v4904.toNat
def k0_dev226 (d0 : Dev nD) : Nat :=
  let c0_i32_5957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5956 : BitVec 32 := 1#32
  let v4915 : BitVec 32 := Scalar.muli v14 c1_i32_5956
  let v4916 : BitVec 32 := Scalar.addi c0_i32_5957 v4915
  v4916.toNat
def k0_dev227 (d0 : Dev nD) : Nat :=
  let c0_i32_6043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6042 : BitVec 32 := 1#32
  let v4991 : BitVec 32 := Scalar.muli v14 c1_i32_6042
  let v4992 : BitVec 32 := Scalar.addi c0_i32_6043 v4991
  v4992.toNat
def k0_dev228 (d0 : Dev nD) : Nat :=
  let c0_i32_6047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6046 : BitVec 32 := 1#32
  let v4995 : BitVec 32 := Scalar.muli v25 c1_i32_6046
  let v4996 : BitVec 32 := Scalar.addi c0_i32_6047 v4995
  v4996.toNat
def k0_dev229 (d0 : Dev nD) : Nat :=
  let c0_i32_6058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6057 : BitVec 32 := 1#32
  let v4999 : BitVec 32 := Scalar.muli v25 c1_i32_6057
  let v5000 : BitVec 32 := Scalar.addi c0_i32_6058 v4999
  v5000.toNat
def k0_dev230 (d0 : Dev nD) : Nat :=
  let c0_i32_6073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6072 : BitVec 32 := 1#32
  let v5011 : BitVec 32 := Scalar.muli v14 c1_i32_6072
  let v5012 : BitVec 32 := Scalar.addi c0_i32_6073 v5011
  v5012.toNat
def k0_dev231 (d0 : Dev nD) : Nat :=
  let c0_i32_6127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6126 : BitVec 32 := 1#32
  let v5051 : BitVec 32 := Scalar.muli v14 c1_i32_6126
  let v5052 : BitVec 32 := Scalar.addi c0_i32_6127 v5051
  v5052.toNat
def k0_dev232 (d0 : Dev nD) : Nat :=
  let c0_i32_6131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6130 : BitVec 32 := 1#32
  let v5055 : BitVec 32 := Scalar.muli v25 c1_i32_6130
  let v5056 : BitVec 32 := Scalar.addi c0_i32_6131 v5055
  v5056.toNat
def k0_dev233 (d0 : Dev nD) : Nat :=
  let c0_i32_6142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6141 : BitVec 32 := 1#32
  let v5059 : BitVec 32 := Scalar.muli v25 c1_i32_6141
  let v5060 : BitVec 32 := Scalar.addi c0_i32_6142 v5059
  v5060.toNat
def k0_dev234 (d0 : Dev nD) : Nat :=
  let c0_i32_6157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6156 : BitVec 32 := 1#32
  let v5071 : BitVec 32 := Scalar.muli v14 c1_i32_6156
  let v5072 : BitVec 32 := Scalar.addi c0_i32_6157 v5071
  v5072.toNat
def k0_dev235 (d0 : Dev nD) : Nat :=
  let c0_i32_6243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6242 : BitVec 32 := 1#32
  let v5147 : BitVec 32 := Scalar.muli v14 c1_i32_6242
  let v5148 : BitVec 32 := Scalar.addi c0_i32_6243 v5147
  v5148.toNat
def k0_dev236 (d0 : Dev nD) : Nat :=
  let c0_i32_6247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6246 : BitVec 32 := 1#32
  let v5151 : BitVec 32 := Scalar.muli v25 c1_i32_6246
  let v5152 : BitVec 32 := Scalar.addi c0_i32_6247 v5151
  v5152.toNat
def k0_dev237 (d0 : Dev nD) : Nat :=
  let c0_i32_6258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6257 : BitVec 32 := 1#32
  let v5155 : BitVec 32 := Scalar.muli v25 c1_i32_6257
  let v5156 : BitVec 32 := Scalar.addi c0_i32_6258 v5155
  v5156.toNat
def k0_dev238 (d0 : Dev nD) : Nat :=
  let c0_i32_6273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6272 : BitVec 32 := 1#32
  let v5167 : BitVec 32 := Scalar.muli v14 c1_i32_6272
  let v5168 : BitVec 32 := Scalar.addi c0_i32_6273 v5167
  v5168.toNat
def k0_dev239 (d0 : Dev nD) : Nat :=
  let c0_i32_6327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6326 : BitVec 32 := 1#32
  let v5207 : BitVec 32 := Scalar.muli v14 c1_i32_6326
  let v5208 : BitVec 32 := Scalar.addi c0_i32_6327 v5207
  v5208.toNat
def k0_dev240 (d0 : Dev nD) : Nat :=
  let c0_i32_6331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6330 : BitVec 32 := 1#32
  let v5211 : BitVec 32 := Scalar.muli v25 c1_i32_6330
  let v5212 : BitVec 32 := Scalar.addi c0_i32_6331 v5211
  v5212.toNat
def k0_dev241 (d0 : Dev nD) : Nat :=
  let c0_i32_6342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6341 : BitVec 32 := 1#32
  let v5215 : BitVec 32 := Scalar.muli v25 c1_i32_6341
  let v5216 : BitVec 32 := Scalar.addi c0_i32_6342 v5215
  v5216.toNat
def k0_dev242 (d0 : Dev nD) : Nat :=
  let c0_i32_6357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6356 : BitVec 32 := 1#32
  let v5227 : BitVec 32 := Scalar.muli v14 c1_i32_6356
  let v5228 : BitVec 32 := Scalar.addi c0_i32_6357 v5227
  v5228.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
# The kernel as a program of repeated steps

The kernel's body is one straight line of about a thousand memory operations: a handshake with the two
neighbours, the device's own chunk put in both rings, thirty ring steps (fifteen that add, fifteen that
pass on), and the last copy out. This module writes that line as a short program over a direction `d`
(forward or backward), a slot `p` of the two-slot ring buffer, a half `q` of a chunk and a step number
`s`, and proves that the printed body is that program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.Sem

variable {F : FTy → Type} [FloatOps F]

/-- The two rings: the forward one carries the left half of the columns to the next device, the backward
    one the right half to the device before. -/
inductive Dir | fw | bw
  deriving DecidableEq

instance : Fintype Dir := ⟨{.fw, .bw}, by intro d; cases d <;> decide⟩

/-- The program's monad: the effects of a TensorCore. -/
abbrev Pg (F : FTy → Type) : Type → Type 1 := Prog (TpuEff nD τ sig (Elt F) Λ₀ .tc)

/-! ## The operands -/

/-- The device's columns of `x`, staged. -/
abbrev xM : Memref sig .tc .vmem S4096x256 .bf16 := Memref.whole cc0_stg0_0
/-- The device's rows of `w`, staged. -/
abbrev wM : Memref sig .tc .vmem S256x8192 .bf16 := Memref.whole cc0_stg1_0
/-- The result. -/
abbrev outM : Memref sig .tc .hbm S4096x8192 .bf16 := Memref.whole main_v1

/-- The two-slot ring buffer of a direction. -/
abbrev commR : Dir → Ref sig .tc | .fw => cc0_scratch0 | .bw => cc0_scratch1
abbrev commM : Dir → Memref sig .tc .vmem S2x256x4096 .bf16
  | .fw => Memref.whole cc0_scratch0 | .bw => Memref.whole cc0_scratch1
theorem comm_whole : ∀ d, (commM d).IsWhole
  | .fw => Memref.isWhole_whole _ | .bw => Memref.isWhole_whole _
/-- The partial product of a direction. -/
abbrev partM : Dir → Memref sig .tc .vmem S256x4096 .bf16
  | .fw => Memref.whole cc0_scratch2 | .bw => Memref.whole cc0_scratch3
theorem part_whole : ∀ d, (partM d).IsWhole
  | .fw => Memref.isWhole_whole _ | .bw => Memref.isWhole_whole _

/-! ## The rectangles -/

theorem inbQ : ∀ p q : Fin 2, ∀ a, (![p.val, 128 * q.val, 0] : Fin 3 → Nat) a + S1x128x4096.size a ≤ S2x256x4096.size a
  | 0, 0 => inb_S2x256x4096_S1x128x4096_0_0_0 | 0, 1 => inb_S2x256x4096_S1x128x4096_0_128_0
  | 1, 0 => inb_S2x256x4096_S1x128x4096_1_0_0 | 1, 1 => inb_S2x256x4096_S1x128x4096_1_128_0
/-- Half `q` of slot `p` of a ring buffer. -/
abbrev rectQ (p q : Fin 2) : Rect S2x256x4096 := Rect.unit (s := S2x256x4096) ![p.val, 128 * q.val, 0] S1x128x4096.size (inbQ p q)
theorem wordsQ : ∀ p q : Fin 2, (rectQ p q).WholeWords (EltTy.packing .bf16)
  | 0, 0 => wordsbf16_S2x256x4096_S1x128x4096_0_0_0 | 0, 1 => wordsbf16_S2x256x4096_S1x128x4096_0_128_0
  | 1, 0 => wordsbf16_S2x256x4096_S1x128x4096_1_0_0 | 1, 1 => wordsbf16_S2x256x4096_S1x128x4096_1_128_0
theorem packedQ : ∀ p q : Fin 2, (rectQ p q).PackedRows (EltTy.packing .bf16)
  | 0, 0 => packedbf16_S2x256x4096_S1x128x4096_0_0_0 | 0, 1 => packedbf16_S2x256x4096_S1x128x4096_0_128_0
  | 1, 0 => packedbf16_S2x256x4096_S1x128x4096_1_0_0 | 1, 1 => packedbf16_S2x256x4096_S1x128x4096_1_128_0

theorem inbP : ∀ p : Fin 2, ∀ a, (![p.val, 0, 0] : Fin 3 → Nat) a + S1x256x4096.size a ≤ S2x256x4096.size a
  | 0 => inb_S2x256x4096_S1x256x4096_0_0_0 | 1 => inb_S2x256x4096_S1x256x4096_1_0_0
/-- Slot `p` of a ring buffer. -/
abbrev rectP (p : Fin 2) : Rect S2x256x4096 := Rect.unit (s := S2x256x4096) ![p.val, 0, 0] S1x256x4096.size (inbP p)
theorem wordsP : ∀ p : Fin 2, (rectP p).WholeWords (EltTy.packing .bf16)
  | 0 => wordsbf16_S2x256x4096_S1x256x4096_0_0_0 | 1 => wordsbf16_S2x256x4096_S1x256x4096_1_0_0

/-- The direction's half of the columns of `w`. -/
abbrev colW : Dir → Nat | .fw => 0 | .bw => 4096
theorem inbW : ∀ d : Dir, ∀ a, (![0, colW d] : Fin 2 → Nat) a + S256x4096.size a ≤ S256x8192.size a
  | .fw => inb_S256x8192_S256x4096_0_0 | .bw => inb_S256x8192_S256x4096_0_4096
abbrev rectW (d : Dir) : Rect S256x8192 := Rect.unit (s := S256x8192) ![0, colW d] S256x4096.size (inbW d)

theorem inbH : ∀ q : Fin 2, ∀ a, (![128 * q.val, 0] : Fin 2 → Nat) a + S128x4096.size a ≤ S256x4096.size a
  | 0 => inb_S256x4096_S128x4096_0_0 | 1 => inb_S256x4096_S128x4096_128_0
/-- Half `q` of a partial product. -/
abbrev rectH (q : Fin 2) : Rect S256x4096 := Rect.unit (s := S256x4096) ![128 * q.val, 0] S128x4096.size (inbH q)
abbrev rectPart : Rect S256x4096 := Rect.unit (s := S256x4096) ![0, 0] S256x4096.size inb_S256x4096_S256x4096_0_0

/-- Half `q` of the device's own rows of `x`. -/
abbrev rectOwn (c : Dev nD) (q : Fin 2) : Rect S4096x256 :=
  Rect.unit (s := S4096x256) (k0_off1 c (BitVec.ofNat 32 (128 * q.val))) S128x256.size (k0_off1_inb c q)

/-- The rows of `x` multiplied in adding step `s`. -/
abbrev offX (c : Dev nD) (s : Fin 15) : Dir → Fin 2 → Nat
  | .fw => k0_off2 c (BitVec.ofNat 32 s.val)
  | .bw => k0_off3 c (BitVec.ofNat 32 s.val)
theorem inbX (c : Dev nD) (s : Fin 15) : ∀ d : Dir, ∀ a, offX c s d a + S256x256.size a ≤ S4096x256.size a
  | .fw => k0_off2_inb c s
  | .bw => k0_off3_inb c s
abbrev rectX (c : Dev nD) (s : Fin 15) (d : Dir) : Rect S4096x256 :=
  Rect.unit (s := S4096x256) (offX c s d) S256x256.size (inbX c s d)

/-- The origin of the block of the result that the `t`-th copy of a direction writes. -/
abbrev offB (c : Dev nD) : Dir → Fin 16 → Fin 2 → Nat
  | .fw, ⟨0, _⟩ => k0_off4 c
  | .bw, ⟨0, _⟩ => k0_off5 c
  | .fw, ⟨t + 1, _⟩ => k0_off6 c (BitVec.ofNat 32 t)
  | .bw, ⟨t + 1, _⟩ => k0_off7 c (BitVec.ofNat 32 t)
theorem inbB (c : Dev nD) : ∀ (d : Dir) (t : Fin 16), ∀ a, offB c d t a + S256x4096.size a ≤ S4096x8192.size a
  | .fw, ⟨0, _⟩ => k0_off4_inb c
  | .bw, ⟨0, _⟩ => k0_off5_inb c
  | .fw, ⟨t + 1, h⟩ => k0_off6_inb c ⟨t, Nat.lt_of_succ_lt_succ h⟩
  | .bw, ⟨t + 1, h⟩ => k0_off7_inb c ⟨t, Nat.lt_of_succ_lt_succ h⟩
abbrev rectB (c : Dev nD) (d : Dir) (t : Fin 16) : Rect S4096x8192 :=
  Rect.unit (s := S4096x8192) (offB c d t) S256x4096.size (inbB c d t)
theorem wordsB (c : Dev nD) : ∀ (d : Dir) (t : Fin 16), (rectB c d t).WholeWords (EltTy.packing .bf16)
  | .fw, ⟨0, _⟩ => k0_off4_wordsbf16 c
  | .bw, ⟨0, _⟩ => k0_off5_wordsbf16 c
  | .fw, ⟨t + 1, h⟩ => k0_off6_wordsbf16 c ⟨t, Nat.lt_of_succ_lt_succ h⟩
  | .bw, ⟨t + 1, h⟩ => k0_off7_wordsbf16 c ⟨t, Nat.lt_of_succ_lt_succ h⟩
/-- The block of the result that the `t`-th copy of a direction writes. -/
abbrev outB (c : Dev nD) (d : Dir) (t : Fin 16) : Memref sig .tc .hbm S256x4096 .bf16 :=
  outM.slice (rectB c d t) (fun _ => rfl)
theorem outB_words (c : Dev nD) (d : Dir) (t : Fin 16) : (outB c d t).view.WordExact :=
  (Memref.isWhole_whole main_v1).wordExact_slice rfl _ (wordsB c d t)

/-- Half `q` of slot `p`, as the transfers name it. -/
abbrev viewQ (d : Dir) (p q : Fin 2) : Memref sig .tc .vmem S128x4096 .bf16 :=
  ((commM d).slice (rectQ p q) (fun _ => rfl)).squeeze S128x4096 squeezes_S1x128x4096_S128x4096
theorem viewQ_words (d : Dir) (p q : Fin 2) : (viewQ d p q).view.WordExact :=
  ((comm_whole d).wordExact_slice rfl _ (wordsQ p q)).reshape _ _
/-- Slot `p`, as the copies out name it. -/
abbrev viewP (d : Dir) (p : Fin 2) : Memref sig .tc .vmem S256x4096 .bf16 :=
  ((commM d).slice (rectP p) (fun _ => rfl)).squeeze S256x4096 squeezes_S1x256x4096_S256x4096
theorem viewP_words (d : Dir) (p : Fin 2) : (viewP d p).view.WordExact :=
  ((comm_whole d).wordExact_slice rfl _ (wordsP p)).reshape _ _

/-! ## The semaphores -/

theorem inbS4 : ∀ p q : Fin 2, ∀ a, (![p.val, q.val] : Fin 2 → Nat) a + S1x1.size a ≤ S2x2.size a
  | 0, 0 => inb_S2x2_S1x1_0_0 | 0, 1 => inb_S2x2_S1x1_0_1 | 1, 0 => inb_S2x2_S1x1_1_0 | 1, 1 => inb_S2x2_S1x1_1_1
theorem inbS2 : ∀ q : Fin 2, ∀ a, (![q.val] : Fin 1 → Nat) a + S1.size a ≤ S2.size a
  | 0 => inb_S2_S1_0 | 1 => inb_S2_S1_1

abbrev sendA : Dir → DmaSems sig S2x2 | .fw => cc0_scratch4 | .bw => cc0_scratch6
abbrev recvA : Dir → DmaSems sig S2x2 | .fw => cc0_scratch5 | .bw => cc0_scratch7
abbrev copyA : Dir → DmaSems sig S_ | .fw => cc0_scratch8 | .bw => cc0_scratch9
abbrev creditA : Dir → Sems sig S2 | .fw => cc0_scratch10 | .bw => cc0_scratch11

abbrev sendS (d : Dir) (p q : Fin 2) : DmaSem sig :=
  (((sendA d).slice (Rect.unit (s := S2x2) ![p.val, q.val] S1x1.size (inbS4 p q))).squeeze S_ squeezes_S1x1_S_).sem
abbrev recvS (d : Dir) (p q : Fin 2) : DmaSem sig :=
  (((recvA d).slice (Rect.unit (s := S2x2) ![p.val, q.val] S1x1.size (inbS4 p q))).squeeze S_ squeezes_S1x1_S_).sem
abbrev copyS (d : Dir) : DmaSem sig := (copyA d).sem
abbrev creditS (d : Dir) (q : Fin 2) : Sem sig :=
  (((creditA d).slice (Rect.unit (s := S2) ![q.val] S1.size (inbS2 q))).squeeze S_ squeezes_S1_S_).sem
/-- The semaphore of the entry handshake. -/
abbrev barS : Sem sig := (SemArray.scalar (sig.barrier 0 rfl) : Sems sig S_).sem

/-! ## The neighbours, as the kernel computes them -/

abbrev lft (c : Dev nD) : Dev nD := ⟨k0_dev1 c, k0_dev1_lt c⟩
abbrev rgt (c : Dev nD) : Dev nD := ⟨k0_dev2 c, k0_dev2_lt c⟩
/-- Where a direction's transfers go. -/
abbrev tgt : Dir → Dev nD → Dev nD | .fw => rgt | .bw => lft
/-- Where a direction's transfers come from. -/
abbrev src : Dir → Dev nD → Dev nD | .fw => lft | .bw => rgt

/-! ## The operations -/

/-- Tell the sender of direction `d` that half `q` of the next landing slot is free. -/
abbrev grantOp (c : Dev nD) (d : Dir) (q : Fin 2) : Pg F PUnit :=
  semSignalWord (src d c) (creditS d q) 1#32

/-- Wait for the credit of direction `d`, half `q`. -/
abbrev creditOp (d : Dir) (q : Fin 2) : Pg F PUnit := semWaitWord (creditS d q) 1#32

/-- Start the transfer of half `q` of slot `p` into the other slot of the direction's next device. -/
abbrev sendOp (c : Dev nD) (d : Dir) (p p' q : Fin 2) : Pg F PUnit :=
  Prog.lift (.enqueueDma (viewQ d p q) (.remote (Dev.tc (tgt d c)) (viewQ d p' q) (.dma (sendS d p q)))
    (.dma (recvS d p' q)) (viewQ_words d p q) (viewQ_words d p' q) ⟨⟨rfl, Or.inl rfl⟩, trivial⟩)

/-- Wait until the transfer out of half `q` of slot `p` has been read. -/
abbrev sentOp (d : Dir) (p p' q : Fin 2) : Pg F PUnit :=
  Prog.lift (.waitDma2 (sendS d p q) (viewQ d p' q) (viewQ d p q) (viewQ_words d p' q) (viewQ_words d p q))

/-- Wait until the transfer into half `q` of slot `p'` has landed. -/
abbrev landedOp (d : Dir) (p p' q : Fin 2) : Pg F PUnit :=
  Prog.lift (.waitDma2 (recvS d p' q) (viewQ d p q) (viewQ d p' q) (viewQ_words d p q) (viewQ_words d p' q))

/-- Half `q` of the device's own chunk, computed into slot 0. -/
abbrev ownOp (c : Dev nD) (d : Dir) (q : Fin 2) : Pg F PUnit := do
  let a : Vec F S128x256 .bf16 ← Prog.lift (.load xM (rectOwn c q).toLoadRect (View.loadsAt_vmem h_S128x256))
  let b : Vec F S256x4096 .bf16 ← Prog.lift (.load wM (rectW d).toLoadRect (View.loadsAt_vmem h_S256x4096))
  let _ : Vec F S1x128x4096 .bf16 ← Prog.lift (.load (commM d) (rectQ 0 q).toLoadRect (View.loadsAt_vmem h_S1x128x4096))
  Prog.lift (.store (commM d) (rectQ 0 q) (k0_pay1 a b) Finset.univ
    (View.stores_vmem h_S1x128x4096 ((comm_whole d).storeExact_slice rfl _ (packedQ 0 q)) (fun _ => rfl)) (.inl rfl))

/-- The partial product of adding step `s`. -/
abbrev partOp (c : Dev nD) (d : Dir) (s : Fin 15) : Pg F PUnit := do
  let a : Vec F S256x256 .bf16 ← Prog.lift (.load xM (rectX c s d).toLoadRect (View.loadsAt_vmem h_S256x256))
  let b : Vec F S256x4096 .bf16 ← Prog.lift (.load wM (rectW d).toLoadRect (View.loadsAt_vmem h_S256x4096))
  let _ : Vec F S256x4096 .bf16 ← Prog.lift (.load (partM d) rectPart.toLoadRect (View.loadsAt_vmem h_S256x4096))
  Prog.lift (.store (partM d) rectPart (k0_pay6 a b) Finset.univ
    (View.stores_vmem h_S256x4096 ((part_whole d).storeExact_slice rfl _ packedbf16_S256x4096_S256x4096_0_0) (fun _ => rfl)) (.inl rfl))

/-- Half `q` of slot `p`, half `q` of the partial product added. -/
abbrev addOp (d : Dir) (p q : Fin 2) : Pg F PUnit := do
  let a : Vec F S1x128x4096 .bf16 ← Prog.lift (.load (commM d) (rectQ p q).toLoadRect (View.loadsAt_vmem h_S1x128x4096))
  let b : Vec F S128x4096 .bf16 ← Prog.lift (.load (partM d) (rectH q).toLoadRect (View.loadsAt_vmem h_S128x4096))
  let _ : Vec F S1x128x4096 .bf16 ← Prog.lift (.load (commM d) (rectQ p q).toLoadRect (View.loadsAt_vmem h_S1x128x4096))
  Prog.lift (.store (commM d) (rectQ p q) (k0_pay10 a b) Finset.univ
    (View.stores_vmem h_S1x128x4096 ((comm_whole d).storeExact_slice rfl _ (packedQ p q)) (fun _ => rfl)) (.inl rfl))

/-- Start the `t`-th copy of slot `p` to the result. -/
abbrev copyOp (c : Dev nD) (d : Dir) (p : Fin 2) (t : Fin 16) : Pg F PUnit :=
  Prog.lift (.enqueueDma (viewP d p) (.here (outB c d t)) (.dma (copyS d)) (viewP_words d p) (outB_words c d t) ⟨Or.inl rfl, trivial⟩)

/-- Wait for it. -/
abbrev copiedOp (c : Dev nD) (d : Dir) (p : Fin 2) (t : Fin 16) : Pg F PUnit :=
  Prog.lift (.waitDma2 (copyS d) (viewP d p) (outB c d t) (viewP_words d p) (outB_words c d t))

/-! ## The steps -/

/-- The slot that step `s` sends from. -/
abbrev slot (s : Nat) : Fin 2 := ⟨s % 2, Nat.mod_lt _ (by decide)⟩

/-- The transfers of half `q` of step `s`, each after its credit. -/
abbrev issueOp (c : Dev nD) (s : Nat) (q : Fin 2) : Pg F PUnit := do
  creditOp .fw q
  sendOp c .fw (slot s) (slot (s + 1)) q
  creditOp .bw q
  sendOp c .bw (slot s) (slot (s + 1)) q

/-- The waits for the transfers of half `q` of step `s`. -/
abbrev awaitOp (s : Nat) (q : Fin 2) : Pg F PUnit := do
  sentOp .fw (slot s) (slot (s + 1)) q
  landedOp .fw (slot s) (slot (s + 1)) q
  sentOp .bw (slot s) (slot (s + 1)) q
  landedOp .bw (slot s) (slot (s + 1)) q

abbrev grantsOp (c : Dev nD) (q : Fin 2) : Pg F PUnit := do
  grantOp c .fw q
  grantOp c .bw q

abbrev addsOp (s : Nat) (q : Fin 2) : Pg F PUnit := do
  addOp .fw (slot (s + 1)) q
  addOp .bw (slot (s + 1)) q

/-- One half of an adding step: wait, free the slot, add, pass on. -/
abbrev addHalf (c : Dev nD) (s : Nat) (q : Fin 2) : Pg F PUnit := do
  awaitOp s q
  grantsOp c q
  addsOp s q
  issueOp c (s + 1) q

/-- Adding step `s`. -/
abbrev addStep (c : Dev nD) (s : Fin 15) : Pg F PUnit := do
  partOp c .fw s
  partOp c .bw s
  addHalf c s 0
  addHalf c s 1

/-- Both copies of step `15 + t` to the result. -/
abbrev copiesOp (c : Dev nD) (p : Fin 2) (t : Fin 16) : Pg F PUnit := do
  copyOp c .fw p t
  copyOp c .bw p t
abbrev copiedsOp (c : Dev nD) (p : Fin 2) (t : Fin 16) : Pg F PUnit := do
  copiedOp c .fw p t
  copiedOp c .bw p t

/-- One half of a passing step: free the slot, pass on. -/
abbrev passHalf (c : Dev nD) (s : Nat) (q : Fin 2) : Pg F PUnit := do
  grantsOp c q
  issueOp c (s + 1) q

/-- Passing step `15 + t`, its chunk copied to the result meanwhile. -/
abbrev passStep (c : Dev nD) (t : Fin 14) : Pg F PUnit := do
  copiesOp c (slot (15 + t.val)) ⟨t.val, by omega⟩
  awaitOp (15 + t.val) 0
  copiedsOp c (slot (15 + t.val)) ⟨t.val, by omega⟩
  passHalf c (15 + t.val) 0
  awaitOp (15 + t.val) 1
  passHalf c (15 + t.val) 1

/-- The last step, and the last chunk copied out. -/
abbrev lastStep (c : Dev nD) : Pg F PUnit := do
  copiesOp c (slot 29) 14
  awaitOp 29 0
  copiedsOp c (slot 29) 14
  awaitOp 29 1
  copiesOp c (slot 30) 15
  copiedsOp c (slot 30) 15

/-- The start: the handshake, the first credits, the device's own chunk in both rings. -/
abbrev firstStep (c : Dev nD) : Pg F PUnit := do
  semSignalWord (lft c) barS 1#32
  semSignalWord (rgt c) barS 1#32
  semWaitWord barS 2#32
  grantsOp c 0
  grantsOp c 1
  ownOp c .fw 0
  ownOp c .bw 0
  issueOp c 0 0
  ownOp c .fw 1
  ownOp c .bw 1
  issueOp c 0 1

/-- `k` adding steps from step `s` on. -/
def addSteps (c : Dev nD) : (k s : Nat) → s + k ≤ 15 → Pg F PUnit
  | 0, _, _ => pure ⟨⟩
  | k + 1, s, h => do
    addStep c ⟨s, by omega⟩
    addSteps c k (s + 1) (by omega)

/-- `k` passing steps from step `15 + t` on. -/
def passSteps (c : Dev nD) : (k t : Nat) → t + k ≤ 14 → Pg F PUnit
  | 0, _, _ => pure ⟨⟩
  | k + 1, t, h => do
    passStep c ⟨t, by omega⟩
    passSteps c k (t + 1) (by omega)

/-- The kernel on device `c`. -/
def deviceRun (c : Dev nD) : Pg F PUnit := do
  firstStep c
  addSteps c 15 0 (by omega)
  passSteps c 14 0 (by omega)
  lastStep c

/-- The printed body is this program. -/
theorem body_eq : bodyAt0 (F := F) t0_0 = (Prog.lift .deviceId >>= fun c => deviceRun c) := by
  chain_rfl

end Cert.RingProof

end
-- ==== Proof.Contents.lean ====
/-
# What the buffers hold

The contents of the kernel's buffers, as functions of the staged operands of all devices. A ring buffer has
two slots of one chunk each (256 rows of a column half); `V d s c` is the chunk that device `c` passes on in
step `s` of direction `d`: at step 0 its own partial product, afterwards what came from the device behind,
with the device's own partial product of those rows added in the first fifteen steps and unchanged later.
From step 15 on the chunk is a finished block of the result.

The module also says what the kernel's views read of a buffer that holds such a chunk.
-/
module

public import proofs.«01_k».proof.Proof.Program
public import Idealize.ShloMosaic.Lib.ValueIdxCore
public import Idealize.ShloMosaic.Lib.ViewIndex
public import Idealize.ShloMosaic.Lib.ValueLayout

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.Sem

variable {F : FTy → Type} [FloatOps F]

/-! ## The neighbours -/

theorem src_tgt : ∀ d c, src d (tgt d c) = c
  | .fw, c => by revert c; decide
  | .bw, c => by revert c; decide
theorem tgt_src : ∀ d c, tgt d (src d c) = c
  | .fw, c => by revert c; decide
  | .bw, c => by revert c; decide

/-- A direction's ring as a permutation of the devices. -/
def ring (d : Dir) : Dev nD ≃ Dev nD := ⟨tgt d, src d, src_tgt d, tgt_src d⟩

/-! ## Chunks -/

/-- The staged operands of every device. -/
structure Operands (F : FTy → Type) where
  x : Dev nD → Vec F S4096x256 .bf16
  w : Dev nD → Vec F S256x8192 .bf16

/-- A chunk: 256 rows of one half of the columns. -/
abbrev Chunk (F : FTy → Type) : Type := Vec F S256x4096 .bf16

/-- Half `q` of a chunk, with a leading axis of one. -/
def slab (q : Fin 2) (X : Chunk F) : Vec F S1x128x4096 .bf16 :=
  fun i => X (ix2 (n0 := 256) (n1 := 4096) ⟨128 * q.val + (i 1).val, by have h : (i 1).val < 128 := (i 1).isLt; omega⟩ (i 2))
/-- Half `q` of a chunk. -/
def half (q : Fin 2) (X : Chunk F) : Vec F S128x4096 .bf16 :=
  fun i => X (ix2 (n0 := 256) (n1 := 4096) ⟨128 * q.val + (i 0).val, by have h : (i 0).val < 128 := (i 0).isLt; omega⟩ (i 1))
/-- The chunk with the given halves. -/
def glue (Y : Fin 2 → Vec F S1x128x4096 .bf16) : Chunk F :=
  fun i => Y ⟨(i 0).val / 128, by have h : (i 0).val < 256 := (i 0).isLt; omega⟩
    (ix3 (n0 := 1) (n1 := 128) (n2 := 4096) 0 ⟨(i 0).val % 128, Nat.mod_lt _ (by decide)⟩ (i 1))

theorem slab_glue (q : Fin 2) (Y : Fin 2 → Vec F S1x128x4096 .bf16) : slab q (glue Y) = Y q := by
  funext i
  have h1 : (i 1).val < 128 := (i 1).isLt
  have hq : (⟨(128 * q.val + (i 1).val) / 128, by omega⟩ : Fin 2) = q := Fin.ext (by show _ / 128 = q.val; omega)
  have hi : (ix3 (n0 := 1) (n1 := 128) (n2 := 4096) 0 ⟨(128 * q.val + (i 1).val) % 128, Nat.mod_lt _ (by decide)⟩ (i 2)) = i := by
    refine Shape.idx3_ext ?_ ?_ rfl
    · have h0 : (i 0).val < 1 := (i 0).isLt
      show 0 = (i 0).val; omega
    · show (128 * q.val + (i 1).val) % 128 = (i 1).val; omega
  show Y ⟨(128 * q.val + (i 1).val) / 128, _⟩ (ix3 (n0 := 1) (n1 := 128) (n2 := 4096) 0 ⟨(128 * q.val + (i 1).val) % 128, _⟩ (i 2)) = Y q i
  rw [hq, hi]

/-- Half `q` of device `c`'s own partial product, as stored. -/
def ownV (I : Operands F) (d : Dir) (c : Dev nD) (q : Fin 2) : Vec F S1x128x4096 .bf16 :=
  k0_pay1 ((xM).view.readAt (Elt F) (rectOwn c q).toLoadRect (I.x c)) ((wM).view.readAt (Elt F) (rectW d).toLoadRect (I.w c))
/-- The partial product of adding step `s`. -/
def partV (I : Operands F) (d : Dir) (c : Dev nD) (s : Fin 15) : Chunk F :=
  k0_pay6 ((xM).view.readAt (Elt F) (rectX c s d).toLoadRect (I.x c)) ((wM).view.readAt (Elt F) (rectW d).toLoadRect (I.w c))

/-- The chunk that device `c` passes on in step `s`. -/
def V (I : Operands F) (d : Dir) : ℕ → Dev nD → Chunk F
  | 0, c => glue (ownV I d c)
  | s + 1, c => if h : s < 15
      then glue fun q => k0_pay10 (slab q (V I d s (src d c))) (half q (partV I d c ⟨s, h⟩))
      else V I d s (src d c)

theorem V_zero (I : Operands F) (d : Dir) (c : Dev nD) : V I d 0 c = glue (ownV I d c) := rfl
theorem V_add (I : Operands F) (d : Dir) (c : Dev nD) (s : Fin 15) :
    V I d (s.val + 1) c = glue fun q => k0_pay10 (slab q (V I d s.val (src d c))) (half q (partV I d c s)) := by
  rw [V, dif_pos s.isLt]
theorem V_pass (I : Operands F) (d : Dir) (c : Dev nD) {s : ℕ} (h : 15 ≤ s) : V I d (s + 1) c = V I d s (src d c) := by
  rw [V, dif_neg (by omega)]

/-- What is passed on from step 15 on is what some device held at step 15. -/
theorem V_late (I : Operands F) (d : Dir) (t : ℕ) : ∀ c, V I d (15 + t) c = V I d 15 ((src d)^[t] c) := by
  induction t with
  | zero => exact fun c => rfl
  | succ t ih => exact fun c => by rw [← Nat.add_assoc, V_pass I d c (by omega), ih, Function.iterate_succ_apply]

/-! ## The result -/

/-- The block of rows that device `c`'s `t`-th copy of direction `d` writes. -/
def och (d : Dir) (t : ℕ) (c : Dev nD) : Dev nD := tgt d ((src d)^[t] c)

/-- The direction a column belongs to. -/
def colDir (j : ℕ) : Dir := if j < 4096 then .fw else .bw

/-- The result: the block of rows `k` of direction `d` is what the device before `k` holds at step 15. -/
def outV (I : Operands F) : Vec F S4096x8192 .bf16 := fun i =>
  V I (colDir (i 1).val) 15 (src (colDir (i 1).val) ⟨(i 0).val / 256, by have h : (i 0).val < 4096 := (i 0).isLt; show _ < 16; omega⟩)
    (ix2 (n0 := 256) (n1 := 4096) ⟨(i 0).val % 256, Nat.mod_lt _ (by decide)⟩ ⟨(i 1).val % 4096, Nat.mod_lt _ (by decide)⟩)

theorem off_outFirst : ∀ c : Dev nD, k0_off4 c = ![256 * (och .fw 0 c).val, 0] ∧ k0_off5 c = ![256 * (och .bw 0 c).val, 4096] := by
  decide +kernel
theorem off_outNext_fw : ∀ (c : Dev nD) (t : Fin 15), k0_off6 c (BitVec.ofNat 32 t.val) = ![256 * (och .fw (t.val + 1) c).val, 0] := by
  decide +kernel
theorem off_outNext_bw : ∀ (c : Dev nD) (t : Fin 15), k0_off7 c (BitVec.ofNat 32 t.val) = ![256 * (och .bw (t.val + 1) c).val, 4096] := by
  decide +kernel

/-! ## A ring buffer holding a chunk -/

/-- A ring buffer both of whose slots hold the chunk. (A holder of one slot or of half of one uses it there.) -/
def bufOf : (d : Dir) → (c : Dev nD) → Chunk F → Buf (Elt F) ((commM d).view.loc (c : Thread nD τ))
  | .fw, _, X => fun i : S2x256x4096.Idx => X (ix2 (n0 := 256) (n1 := 4096) (i 1) (i 2))
  | .bw, _, X => fun i : S2x256x4096.Idx => X (ix2 (n0 := 256) (n1 := 4096) (i 1) (i 2))

/-- A partial-product buffer holding a chunk. -/
def partOf : (d : Dir) → (c : Dev nD) → Chunk F → Buf (Elt F) ((partM d).view.loc (c : Thread nD τ))
  | .fw, _, X => X
  | .bw, _, X => X

theorem read_comm (d : Dir) (c : Dev nD) (X : Chunk F) (i : S2x256x4096.Idx) :
    (commM d).view.read (Elt F) (bufOf d c X) i = X (ix2 (n0 := 256) (n1 := 4096) (i 1) (i 2)) := by
  cases d <;> rfl

theorem read_part (d : Dir) (c : Dev nD) (X : Chunk F) (i : S256x4096.Idx) :
    (partM d).view.read (Elt F) (partOf d c X) i = X i := by
  cases d <;> rfl

/-- The index of a slice with a leading axis of one, under the index without it. -/
theorem unsqueezeQ (h : S128x4096.numel = S1x128x4096.numel) (i : S128x4096.Idx) :
    Shape.reshapeEquiv h i = ix3 (n0 := 1) (n1 := 128) (n2 := 4096) 0 (i 0) (i 1) :=
  (congrArg _ (eq_ix2 (n0 := 128) (n1 := 4096) i)).trans (reshapeEquiv_ix2_1ab (a := 128) (b := 4096) h (i 0) (i 1))
theorem unsqueezeP (h : S256x4096.numel = S1x256x4096.numel) (i : S256x4096.Idx) :
    Shape.reshapeEquiv h i = ix3 (n0 := 1) (n1 := 256) (n2 := 4096) 0 (i 0) (i 1) :=
  (congrArg _ (eq_ix2 (n0 := 256) (n1 := 4096) i)).trans (reshapeEquiv_ix2_1ab (a := 256) (b := 4096) h (i 0) (i 1))

/-- A load of half `q` of slot `p`. -/
theorem load_comm (d : Dir) (c : Dev nD) (p q : Fin 2) (X : Chunk F) :
    (commM d).view.readAt (Elt F) (rectQ p q).toLoadRect (bufOf d c X) = slab q X := by
  funext i
  rw [View.readAt_apply, read_comm]
  refine congrArg X (funext fun a => ?_)
  match a with
  | ⟨0, _⟩ => exact Fin.ext (by show 128 * q.val + 1 * (i 1).val = 128 * q.val + (i 1).val; omega)
  | ⟨1, _⟩ => exact Fin.ext (by show 0 + 1 * (i 2).val = (i 2).val; omega)

/-- The same half through the view that the transfers name. -/
theorem read_viewQ (d : Dir) (c : Dev nD) (p q : Fin 2) (X : Chunk F) :
    (viewQ d p q).view.read (Elt F) (bufOf d c X) = half q X := by
  funext i
  show (commM d).view.read (Elt F) (bufOf d c X) ((rectQ p q).emb (Shape.reshapeEquiv _ i)) = _
  rw [read_comm, unsqueezeQ]
  refine congrArg X (funext fun a => ?_)
  match a with
  | ⟨0, _⟩ => exact Fin.ext (by show 128 * q.val + 1 * (i 0).val = 128 * q.val + (i 0).val; omega)
  | ⟨1, _⟩ => exact Fin.ext (by show 0 + 1 * (i 1).val = (i 1).val; omega)

/-- A whole slot through the view that the copies out name. -/
theorem read_viewP (d : Dir) (c : Dev nD) (p : Fin 2) (X : Chunk F) :
    (viewP d p).view.read (Elt F) (bufOf d c X) = X := by
  funext i
  show (commM d).view.read (Elt F) (bufOf d c X) ((rectP p).emb (Shape.reshapeEquiv _ i)) = _
  rw [read_comm, unsqueezeP]
  refine congrArg X (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of half `q` of a partial product. -/
theorem load_part (d : Dir) (c : Dev nD) (q : Fin 2) (X : Chunk F) :
    (partM d).view.readAt (Elt F) (rectH q).toLoadRect (partOf d c X) = half q X := by
  funext i
  rw [View.readAt_apply, read_part]
  refine congrArg X (funext fun a => ?_)
  match a with
  | ⟨0, _⟩ => exact Fin.ext (by show 128 * q.val + 1 * (i 0).val = 128 * q.val + (i 0).val; omega)
  | ⟨1, _⟩ => exact Fin.ext (by show 0 + 1 * (i 1).val = (i 1).val; omega)

/-- A store of a whole partial product. -/
theorem store_part (d : Dir) (c : Dev nD) (f : Buf (Elt F) ((partM d).view.loc (c : Thread nD τ))) (X : Chunk F) :
    ((partM d).access rectPart : View sig .tc _ _ _).write (Elt F) f X Finset.univ = partOf d c X := by
  have hz : (![0, 0] : Fin 2 → Nat) = fun _ => 0 := funext fun a => by fin_cases a <;> rfl
  cases d
  · exact Memref.write_access_unit_zero_univ (Elt F) cc0_scratch2 hz _ f X
  · exact Memref.write_access_unit_zero_univ (Elt F) cc0_scratch3 hz _ f X

/-! ## The blocks of the result -/

/-- The origin of the block that a copy writes. -/
theorem offB_eq (c : Dev nD) : ∀ (d : Dir) (t : Fin 16), offB c d t = ![256 * (och d t.val c).val, colW d]
  | .fw, ⟨0, _⟩ => (off_outFirst c).1
  | .bw, ⟨0, _⟩ => (off_outFirst c).2
  | .fw, ⟨t + 1, h⟩ => off_outNext_fw c ⟨t, Nat.lt_of_succ_lt_succ h⟩
  | .bw, ⟨t + 1, h⟩ => off_outNext_bw c ⟨t, Nat.lt_of_succ_lt_succ h⟩

/-- What the result holds where a copy writes. -/
theorem outB_read (I : Operands F) (d : Dir) (c : Dev nD) (t : Fin 16) :
    (outB c d t).view.read (Elt F) (outV I) = V I d (15 + t.val) c := by
  have key (off : Fin 2 → Nat) (inb : ∀ a, off a + S256x4096.size a ≤ S4096x8192.size a)
      (ho : off = ![256 * (och d t.val c).val, colW d]) :
      (outM.slice (Rect.unit (s := S4096x8192) off S256x4096.size inb) (fun _ => rfl)).view.read (Elt F) (outV I) = V I d (15 + t.val) c := by
    subst ho
    funext i
    have h0 : (i 0).val < 256 := (i 0).isLt
    have h1 : (i 1).val < 4096 := (i 1).isLt
    have hcol : colDir (colW d + 1 * (i 1).val) = d := by
      unfold colDir; cases d
      · exact if_pos (by show 0 + 1 * (i 1).val < 4096; omega)
      · exact if_neg (by show ¬ 4096 + 1 * (i 1).val < 4096; omega)
    have hrow : (⟨(256 * (och d t.val c).val + 1 * (i 0).val) / 256, by have := (och d t.val c).isLt; show _ < 16; have : (och d t.val c).val < 16 := this; omega⟩ : Dev nD)
        = och d t.val c := Fin.ext (by show _ / 256 = (och d t.val c).val; omega)
    show V I (colDir (colW d + 1 * (i 1).val)) 15 (src (colDir (colW d + 1 * (i 1).val)) ⟨(256 * (och d t.val c).val + 1 * (i 0).val) / 256, _⟩)
      (ix2 (n0 := 256) (n1 := 4096) ⟨(256 * (och d t.val c).val + 1 * (i 0).val) % 256, _⟩ ⟨(colW d + 1 * (i 1).val) % 4096, _⟩) = _
    rw [hrow, hcol, V_late]
    unfold och
    rw [src_tgt]
    refine congrArg _ (funext fun a => ?_)
    match a with
    | ⟨0, _⟩ => exact Fin.ext (by show (256 * (och d t.val c).val + 1 * (i 0).val) % 256 = (i 0).val; omega)
    | ⟨1, _⟩ => exact Fin.ext (by
        show (colW d + 1 * (i 1).val) % 4096 = (i 1).val
        cases d
        · show (0 + 1 * (i 1).val) % 4096 = (i 1).val; omega
        · show (4096 + 1 * (i 1).val) % 4096 = (i 1).val; omega)
  exact key _ _ (offB_eq c d t)

end Cert.RingProof

end
-- ==== Proof.Protocol.lean ====
/-
# The protocol between the devices

Per device there are 23 semaphore cells. For each the module says who raises it, by how much and in which
order, and what each raise hands to the device that waits on it:

* the handshake cell, raised once by each neighbour, hands over nothing;
* `credit d q`, raised thirty times by the device that direction `d` sends to: the `r`-th raise hands over half
  `q` of the slot there that transfer `r` will land in, and that its landing cell has come that far;
* `send d p q`, raised when a transfer out of half `q` of slot `p` has been read: hands the half's lent share back;
* `recv d p q`, raised when a transfer into half `q` of slot `p` has landed: hands over that half with the
  chunk the device behind passed on, and that its credit cell has come that far;
* `copy d`, raised when a copy to the result is done: hands over the finished block of the result and the
  lent share of the slot.

What a device owes the others (credits and transfers not yet made) is counted per lane, a lane being a
direction with a half; every unit owed has a level, and a device waits only below the levels it still owes.
-/
module

public import proofs.«01_k».proof.Proof.Contents
public import Mathlib.Tactic.DeriveFintype
public import Mathlib.Tactic.Abel
public import Mathlib.Algebra.BigOperators.Intervals

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the ring's -/

abbrev UB : Type := URounds (GSem nD τ sig) Bool
abbrev UU : Type := UR sig nD τ × UB

/-- Assertions; the index of a unit is its level. -/
local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The cells -/

/-- The kernel's own semaphores. -/
inductive Own
  | credit (d : Dir) (q : Fin 2)
  | send (d : Dir) (p q : Fin 2)
  | recv (d : Dir) (p q : Fin 2)
  | copy (d : Dir)
  deriving DecidableEq, Fintype

abbrev osem : Own → SemLoc sig
  | .credit d q => .reg (creditS d q)
  | .send d p q => .dma (sendS d p q)
  | .recv d p q => .dma (recvS d p q)
  | .copy d => .dma (copyS d)

/-- All semaphores, the handshake's first. -/
abbrev csem : Option Own → SemLoc sig
  | none => .reg barS
  | some o => osem o

theorem csem_injective : Function.Injective csem := by
  unfold Function.Injective
  decide +kernel

abbrev kcell (ck : Dev nD × Option Own) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The cell a semaphore is. -/
def decode (g : GSem nD τ sig) : Option (Dev nD × Option Own) :=
  open Classical in if h : ∃ ck, kcell ck = g then some h.choose else none
theorem decode_kcell (ck : Dev nD × Option Own) : decode (kcell ck) = some ck := by
  have h : ∃ ck', kcell ck' = kcell ck := ⟨ck, rfl⟩
  unfold decode
  rw [dif_pos h, kcell_injective h.choose_spec]

abbrev barC (c : Dev nD) : GSem nD τ sig := ((c : Thread nD τ), .reg barS)
abbrev creditC (d : Dir) (q : Fin 2) (c : Dev nD) : GSem nD τ sig := ((c : Thread nD τ), .reg (creditS d q))
abbrev sendC (d : Dir) (p q : Fin 2) (c : Dev nD) : GSem nD τ sig := ((c : Thread nD τ), .dma (sendS d p q))
abbrev recvC (d : Dir) (p q : Fin 2) (c : Dev nD) : GSem nD τ sig := ((c : Thread nD τ), .dma (recvS d p q))
abbrev copyC (d : Dir) (c : Dev nD) : GSem nD τ sig := ((c : Thread nD τ), .dma (copyS d))

/-- The credit of one transfer of half a chunk. -/
def N : ℕ := (viewQ .fw 0 0).view.dmaCredit
theorem N_pos : 0 < N := View.dmaCredit_pos _ (by decide)
theorem N_eq (d : Dir) (p q : Fin 2) (s : DmaSem sig) : (viewQ d p q).view.amount (.dma s) = N := by
  cases d <;> rfl
/-- The credit of one copy of a chunk to the result. -/
def NC : ℕ := (outB 0 .fw 0).view.dmaCredit
theorem NC_pos : 0 < NC := View.dmaCredit_pos _ (by decide)
theorem NC_eq (c : Dev nD) (d : Dir) (t : Fin 16) (s : DmaSem sig) : (outB c d t).view.amount (.dma s) = NC := rfl

/-! ## What is handed over -/

/-- Half `q` of slot `p` of device `c`'s ring buffer, at share `π`, holding the chunk's half. -/
def Q (d : Dir) (p q : Fin 2) (π : PosShare TreeShare) (X : Chunk F) (c : Dev nD) : sProp 𝕄 :=
  (viewQ d p q).view.loc (c : Thread nD τ) ↦[(viewQ d p q).view.set]{π} bufOf d c X
/-- The same with nothing known of what it holds. -/
def Qany (d : Dir) (p q : Fin 2) (c : Dev nD) : sProp 𝕄 :=
  iprop(∃ f : Buf (Elt F) ((viewQ d p q).view.loc (c : Thread nD τ)), (viewQ d p q).view.loc (c : Thread nD τ) ↦[(viewQ d p q).view.set]{fullShare} f)
/-- Slot `p`, both halves. -/
def P (d : Dir) (p : Fin 2) (π : PosShare TreeShare) (X : Chunk F) (c : Dev nD) : sProp 𝕄 :=
  (viewP d p).view.loc (c : Thread nD τ) ↦[(viewP d p).view.set]{π} bufOf d c X

abbrev num16 (t : ℕ) : Fin 16 := ⟨t % 16, Nat.mod_lt _ (by decide)⟩
/-- The block of the result that the `t`-th copy writes, finished. -/
def B (I : Operands F) (d : Dir) (t : ℕ) (c : Dev nD) : sProp 𝕄 :=
  (outB c d (num16 t)).view.loc (c : Thread nD τ) ↦[(outB c d (num16 t)).view.set]{fullShare} outV I
/-- The same not yet written. -/
def Bany (d : Dir) (t : ℕ) (c : Dev nD) : sProp 𝕄 :=
  iprop(∃ f : Buf (Elt F) ((outB c d (num16 t)).view.loc (c : Thread nD τ)), (outB c d (num16 t)).view.loc (c : Thread nD τ) ↦[(outB c d (num16 t)).view.set]{fullShare} f)

instance Q_storable (d p q π) (X : Chunk F) (c) : BI.Storable (upEmb : UEmb _ 𝕄) (Q d p q π X c) := by unfold Q; infer_instance
instance Qany_storable (d p q c) : BI.Storable (upEmb : UEmb _ 𝕄) (Qany (F := F) d p q c) := by unfold Qany; infer_instance
instance P_storable (d p π) (X : Chunk F) (c) : BI.Storable (upEmb : UEmb _ 𝕄) (P d p π X c) := by unfold P; infer_instance
instance B_storable (I : Operands F) (d t c) : BI.Storable (upEmb : UEmb _ 𝕄) (B I d t c) := by unfold B; infer_instance

/-! ## The schedule -/

def dutiesOf : Option Own → ℕ → Finset Bool
  | none, r => if r = 0 then Finset.univ else ∅
  | some (.credit _ _), r => if r < 30 then {false} else ∅
  | some (.send _ _ _), r => if r < 15 then {false} else ∅
  | some (.recv _ _ _), r => if r < 15 then {false} else ∅
  | some (.copy _), r => if r < 16 then {false} else ∅

def amountOf : Option Own → ℕ
  | none => 1
  | some (.credit _ _) => 1
  | some (.send _ _ _) => N
  | some (.recv _ _ _) => N
  | some (.copy _) => NC
theorem amountOf_pos : ∀ k, 0 < amountOf k
  | none => Nat.one_pos
  | some (.credit _ _) => Nat.one_pos
  | some (.send _ _ _) => N_pos
  | some (.recv _ _ _) => N_pos
  | some (.copy _) => NC_pos

/-- What round `r` of the cell hands to device `c`. -/
def payOf (I : Operands F) (c : Dev nD) : Option Own → ℕ → sProp 𝕄
  | none, _ => iprop(emp)
  | some (.credit d q), r => iprop(Qany d (slot (r + 1)) q (tgt d c) ∗ reached ER (recvC d (slot (r + 1)) q (tgt d c)) (r / 2))
  | some (.send d p q), j => Q d p q fullShare.left (V I d (2 * j + p.val) c) c
  | some (.recv d p q), j => iprop(Q d p q fullShare (V I d (2 * j + 1 - p.val) (src d c)) c
      ∗ reached ER (creditC d q (src d c)) (2 * j + 1 - p.val + 1))
  | some (.copy d), t => iprop(B I d t c ∗ P d (slot (15 + t)) fullShare.right (V I d (15 + t) c) c)

instance payOf_storable (I : Operands F) (c : Dev nD) (k : Option Own) (r : ℕ) : BI.Storable (upEmb : UEmb _ 𝕄) (payOf I c k r) := by
  match k with
  | none => unfold payOf; infer_instance
  | some (.credit d q) => unfold payOf; infer_instance
  | some (.send d p q) => unfold payOf; infer_instance
  | some (.recv d p q) => unfold payOf; infer_instance
  | some (.copy d) => unfold payOf; infer_instance

def Rd (I : Operands F) : Rounds.Schedule (GSem nD τ sig) Bool 𝕄 where
  duties g r := match decode g with | some ck => dutiesOf ck.2 r | none => ∅
  amount g _ _ := match decode g with | some ck => amountOf ck.2 | none => 1
  payload g r _ := match decode g with | some ck => payOf I ck.1 ck.2 r | none => iprop(emp)
  unitless _ := False
  amount_pos g _ _ _ := by
    match decode g with
    | none => exact Nat.one_pos
    | some ck => exact amountOf_pos ck.2

instance Rd_storable (I : Operands F) (g : GSem nD τ sig) (r : ℕ) (d : Bool) : BI.Storable (upEmb : UEmb _ 𝕄) ((Rd I).payload g r d) := by
  show BI.Storable upEmb (match decode g with | some ck => payOf I ck.1 ck.2 r | none => iprop(emp))
  match decode g with
  | none => infer_instance
  | some ck => infer_instance

section Sched
variable (I : Operands F) (ck : Dev nD × Option Own) (r : ℕ)

theorem duties_k : (Rd I).duties (kcell ck) r = dutiesOf ck.2 r := by dsimp only [Rd]; rw [decode_kcell]
theorem amount_k (d : Bool) : (Rd I).amount (kcell ck) r d = amountOf ck.2 := by dsimp only [Rd]; rw [decode_kcell]
theorem payload_k (d : Bool) : (Rd I).payload (kcell ck) r d = payOf I ck.1 ck.2 r := by dsimp only [Rd]; rw [decode_kcell]
theorem mem_duties_k (h : dutiesOf ck.2 r = {false}) : false ∈ (Rd I).duties (kcell ck) r := by
  rw [duties_k, h]; exact Finset.mem_singleton_self _
theorem expect_k (h : dutiesOf ck.2 r = {false}) : (Rd I).expect (kcell ck) r = amountOf ck.2 := by
  unfold Schedule.expect Schedule.amountOf; rw [duties_k, h, Finset.sum_singleton, amount_k]
theorem rest_k (h : dutiesOf ck.2 r = {false}) :
    bigSep ((Rd I).duties (kcell ck) r \ ∅) (fun d => (Rd I).payload (kcell ck) r d) = payOf I ck.1 ck.2 r := by
  rw [Finset.sdiff_empty, duties_k, h, bigSep_singleton, payload_k]
theorem expect_bar (c : Dev nD) : (Rd I).expect (barC c) 0 = 2 := by
  show (Rd I).expect (kcell (c, none)) 0 = 2
  unfold Schedule.expect Schedule.amountOf
  rw [duties_k, Finset.sum_congr rfl fun d _ => amount_k I (c, none) 0 d]
  rfl
/-- After its last round a cell has no duty. -/
theorem duties_end {R : ℕ} (h : ∀ r, R ≤ r → dutiesOf ck.2 r = ∅) : ∀ r, R ≤ r → (Rd I).duties (kcell ck) r = ∅ :=
  fun r hr => (duties_k I ck r).trans (h r hr)
end Sched

/-! ## Levels, and what a device owes -/

/-- The level of the `r`-th credit and of the `r`-th transfer of a lane. -/
abbrev lvC (r : ℕ) (q : Fin 2) : ℕ := 4 * r + 2 * q.val + 2
abbrev lvR (r : ℕ) (q : Fin 2) : ℕ := 4 * r + 2 * q.val + 3

def L (g : GSem nD τ sig) : Finset ℕ := if g.1.2 = .tc then Finset.range 200 else ∅
def lv (_ : GSem nD τ sig) (i : ℕ) : ℕ := i

theorem L_of_ne (g : GSem nD τ sig) (h : g.1.2 ≠ .tc) : L g = ∅ := if_neg h

/-- Everything owed has a level above `l`. -/
def Above (l : ℕ) (O : CellTallies nD τ sig ℕ) : Prop := ∀ g u, 0 < O g u → g.1.2 = .tc ∧ l < u ∧ u < 200

theorem above_zero (l : ℕ) : Above l 0 := fun g u h => absurd h (Nat.lt_irrefl 0)
theorem above_add {l : ℕ} {O O' : CellTallies nD τ sig ℕ} (h : Above l O) (h' : Above l O') : Above l (O + O') := fun g u hg => by
  rw [Pi.add_apply, Finsupp.add_apply] at hg
  rcases Nat.eq_zero_or_pos (O g u) with h0 | h0
  · exact h' g u (by omega)
  · exact h g u h0
theorem above_sum {l : ℕ} {T : Type} (S : Finset T) (O : T → CellTallies nD τ sig ℕ) (h : ∀ t ∈ S, Above l (O t)) : Above l (∑ t ∈ S, O t) := by
  classical
  induction S using Finset.induction_on with
  | empty => rw [Finset.sum_empty]; exact above_zero l
  | insert t S ht ih =>
    rw [Finset.sum_insert ht]
    exact above_add (h t (Finset.mem_insert_self _ _)) (ih fun t' h' => h t' (Finset.mem_insert_of_mem h'))
theorem above_tally {l i n : ℕ} {c : Dev nD} {sm : SemLoc sig} (h : l < i) (h' : i < 200) : Above l (tallyAt ((c : Thread nD τ), sm) i n) := fun g u hg => by
  rw [tallyAt_apply] at hg
  by_cases e : g = ((c : Thread nD τ), sm) ∧ u = i
  · rw [e.1, e.2]; exact ⟨rfl, h, h'⟩
  · rw [if_neg e] at hg; exact absurd hg (Nat.lt_irrefl 0)

/-- A wait at level `l` is allowed while everything owed lies above. -/
theorem mayWait_above (c : Dev nD) (sm : SemLoc sig) {l : ℕ} (hl : l < 200) {O : CellTallies nD τ sig ℕ} (hO : Above l O) :
    (levAts L lv : sProp 𝕄) ⊢ MayWait (c : Thread nD τ) sm l O :=
  MayOwe.of_cut (L := L) (lev := lv) l
    (fun p hp => by rw [Finset.mem_singleton.mp hp]; show l ∈ L _; unfold L; rw [if_pos rfl]; exact Finset.mem_range.mpr hl)
    (fun g u hg => by unfold L; rw [if_pos (hO g u hg).1]; exact Finset.mem_range.mpr (hO g u hg).2.2)
    (fun p hp => by rw [Finset.mem_singleton.mp hp]; exact le_rfl)
    (fun g u hg => (hO g u hg).2.1)

/-- A lane: a direction with a half. -/
abbrev Lane : Type := Dir × Fin 2

/-- What a device owes on a lane with `n` credits given and `s` transfers started. -/
def owedLane (c : Dev nD) (ℓ : Lane) (n s : ℕ) : CellTallies nD τ sig ℕ :=
  (∑ r ∈ Finset.Ico n 30, tallyAt (creditC ℓ.1 ℓ.2 (src ℓ.1 c)) (lvC r ℓ.2) 1)
    + ∑ r ∈ Finset.Ico s 30, tallyAt (recvC ℓ.1 (slot (r + 1)) ℓ.2 (tgt ℓ.1 c)) (lvR r ℓ.2) N
/-- What it owes on all lanes. -/
def owed (c : Dev nD) (n s : Lane → ℕ) : CellTallies nD τ sig ℕ := ∑ ℓ, owedLane c ℓ (n ℓ) (s ℓ)

theorem above_owed {l : ℕ} (c : Dev nD) (n s : Lane → ℕ) (hn : ∀ ℓ : Lane, l < lvC (n ℓ) ℓ.2) (hs : ∀ ℓ : Lane, l < lvR (s ℓ) ℓ.2) :
    Above l (owed c n s) := by
  unfold owed
  refine above_sum _ _ fun ℓ _ => ?_
  unfold owedLane
  have hq : ℓ.2.val < 2 := ℓ.2.isLt
  refine above_add (above_sum _ _ fun r hr => above_tally ?_ ?_) (above_sum _ _ fun r hr => above_tally ?_ ?_)
  all_goals have h := Finset.mem_Ico.mp hr; have h1 := hn ℓ; have h2 := hs ℓ; unfold lvC lvR at *; omega

theorem owed_grant (c : Dev nD) (ℓ : Lane) (n n' s : Lane → ℕ) (hlt : n ℓ < 30) (h : n' = Function.update n ℓ (n ℓ + 1)) :
    owed c n s = owed c n' s + tallyAt (creditC ℓ.1 ℓ.2 (src ℓ.1 c)) (lvC (n ℓ) ℓ.2) 1 := by
  subst h
  unfold owed
  rw [← Finset.add_sum_erase _ _ (Finset.mem_univ ℓ), ← Finset.add_sum_erase _ (fun ℓ' => owedLane c ℓ' (Function.update n ℓ (n ℓ + 1) ℓ') (s ℓ')) (Finset.mem_univ ℓ),
    Finset.sum_congr rfl fun ℓ' h => by rw [← Function.update_of_ne (Finset.ne_of_mem_erase h) (n ℓ + 1) n], Function.update_self]
  unfold owedLane
  rw [Finset.sum_eq_sum_Ico_succ_bot hlt]
  abel

theorem owed_send (c : Dev nD) (ℓ : Lane) (n s s' : Lane → ℕ) (hlt : s ℓ < 30) (h : s' = Function.update s ℓ (s ℓ + 1)) :
    owed c n s = owed c n s' + tallyAt (recvC ℓ.1 (slot (s ℓ + 1)) ℓ.2 (tgt ℓ.1 c)) (lvR (s ℓ) ℓ.2) N := by
  subst h
  unfold owed
  rw [← Finset.add_sum_erase _ _ (Finset.mem_univ ℓ), ← Finset.add_sum_erase _ (fun ℓ' => owedLane c ℓ' (n ℓ') (Function.update s ℓ (s ℓ + 1) ℓ')) (Finset.mem_univ ℓ),
    Finset.sum_congr rfl fun ℓ' h => by rw [← Function.update_of_ne (Finset.ne_of_mem_erase h) (s ℓ + 1) s], Function.update_self]
  unfold owedLane
  rw [Finset.sum_eq_sum_Ico_succ_bot (f := fun r => tallyAt (recvC ℓ.1 (slot (r + 1)) ℓ.2 (tgt ℓ.1 c)) (lvR r ℓ.2) N) hlt]
  abel

theorem owed_end (c : Dev nD) (n s : Lane → ℕ) (hn : ∀ ℓ, 30 ≤ n ℓ) (hs : ∀ ℓ, 30 ≤ s ℓ) : owed c n s = 0 := by
  unfold owed owedLane
  refine Finset.sum_eq_zero fun ℓ _ => ?_
  rw [Finset.Ico_eq_empty (by have := hn ℓ; omega), Finset.Ico_eq_empty (by have := hs ℓ; omega), Finset.sum_empty, Finset.sum_empty, add_zero]

/-- What a device owes at launch: everything, and one unit of the handshake to each neighbour. -/
def O₁ (c : Dev nD) : CellTallies nD τ sig ℕ := owed c (fun _ => 0) (fun _ => 0) + tallyAt (barC (rgt c)) 1 1
def O₀ (c : Dev nD) : CellTallies nD τ sig ℕ := O₁ c + tallyAt (barC (lft c)) 1 1

theorem above_start (c : Dev nD) (l : ℕ) (hl : l < 2) : Above l (owed c (fun _ => 0) (fun _ => 0)) :=
  above_owed c _ _ (fun ℓ => by unfold lvC; omega) (fun ℓ => by unfold lvR; omega)
theorem above_O₀ (c : Dev nD) : Above 0 (O₀ c) :=
  above_add (above_add (above_start c 0 (by omega)) (above_tally (by omega) (by omega))) (above_tally (by omega) (by omega))

end Cert.RingProof

end
-- ==== Proof.Regions.lean ====
/-
# Ownership of parts of the buffers

A ring buffer is owned in quarters (half a slot each), its slots and the whole buffer being the union of those;
a quarter's share is split in two while a transfer reads it. What a load, a store and a transfer find and leave in
a quarter is said here in terms of the chunks of `Contents`.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A view rewritten with what it reads elsewhere -/

/-- Written with what the view reads of `g`, a buffer agrees with `g` under the view. -/
theorem write_of_read {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  subst h
  intro i hi
  obtain ⟨x, -, rfl⟩ := Finset.mem_map.mp hi
  rw [View.write_emb_of_mem _ _ (Finset.mem_univ x), View.read_apply, cast_cast, cast_eq]

/-! ## The quarters -/

theorem mem_rectQ (p q : Fin 2) (i : S2x256x4096.Idx) : i ∈ (rectQ p q).set ↔ (i 0).val = p.val ∧ (i 1).val / 128 = q.val := by
  rw [Rect.mem_set_unit]
  have h2 : (i 2).val < 4096 := (i 2).isLt
  have h1 : (i 1).val < 256 := (i 1).isLt
  constructor
  · intro h
    have a0 : p.val ≤ (i 0).val ∧ (i 0).val < p.val + 1 := h 0
    have a1 : 128 * q.val ≤ (i 1).val ∧ (i 1).val < 128 * q.val + 128 := h 1
    omega
  · rintro ⟨e0, e1⟩ a
    match a with
    | ⟨0, _⟩ => show p.val ≤ (i 0).val ∧ (i 0).val < p.val + 1; omega
    | ⟨1, _⟩ => show 128 * q.val ≤ (i 1).val ∧ (i 1).val < 128 * q.val + 128; omega
    | ⟨2, _⟩ => show 0 ≤ (i 2).val ∧ (i 2).val < 0 + 4096; omega

theorem mem_rectP (p : Fin 2) (i : S2x256x4096.Idx) : i ∈ (rectP p).set ↔ (i 0).val = p.val := by
  rw [Rect.mem_set_unit]
  have h2 : (i 2).val < 4096 := (i 2).isLt
  have h1 : (i 1).val < 256 := (i 1).isLt
  constructor
  · intro h
    have a0 : p.val ≤ (i 0).val ∧ (i 0).val < p.val + 1 := h 0
    omega
  · rintro e0 a
    match a with
    | ⟨0, _⟩ => show p.val ≤ (i 0).val ∧ (i 0).val < p.val + 1; omega
    | ⟨1, _⟩ => show 0 ≤ (i 1).val ∧ (i 1).val < 0 + 256; omega
    | ⟨2, _⟩ => show 0 ≤ (i 2).val ∧ (i 2).val < 0 + 4096; omega

theorem rectP_halves (p : Fin 2) : (rectP p).set = (rectQ p 0).set ∪ (rectQ p 1).set := by
  ext i
  rw [Finset.mem_union, mem_rectP, mem_rectQ, mem_rectQ]
  have h1 : (i 1).val < 256 := (i 1).isLt
  show _ ↔ _ ∧ _ = 0 ∨ _ ∧ _ = 1
  omega
theorem rectQ_disjoint (p : Fin 2) : Disjoint (rectQ p 0).set (rectQ p 1).set := by
  rw [Finset.disjoint_left]
  intro i h h'
  have a : (i 1).val / 128 = 0 := ((mem_rectQ p 0 i).mp h).2
  have b : (i 1).val / 128 = 1 := ((mem_rectQ p 1 i).mp h').2
  omega
theorem rect_slots : (Finset.univ : Finset S2x256x4096.Idx) = (rectP 0).set ∪ (rectP 1).set := by
  ext i
  rw [Finset.mem_union, mem_rectP, mem_rectP]
  have h1 : (i 0).val < 2 := (i 0).isLt
  show _ ↔ _ = 0 ∨ _ = 1
  exact ⟨fun _ => by omega, fun _ => Finset.mem_univ _⟩
theorem rectP_disjoint : Disjoint (rectP 0).set (rectP 1).set := by
  rw [Finset.disjoint_left]
  intro i h h'
  have a : (i 0).val = 0 := (mem_rectP 0 i).mp h
  have b : (i 0).val = 1 := (mem_rectP 1 i).mp h'
  omega

theorem set_viewQ (d : Dir) (p q : Fin 2) : (viewQ d p q).view.set = (rectQ p q).set.map (commM d).view.emb := by
  show (((commM d).view.slice (rectQ p q)).reshape S128x4096 _).set = _
  rw [View.set_reshape, View.set_slice]
theorem set_viewP (d : Dir) (p : Fin 2) : (viewP d p).view.set = (rectP p).set.map (commM d).view.emb := by
  show (((commM d).view.slice (rectP p)).reshape S256x4096 _).set = _
  rw [View.set_reshape, View.set_slice]
theorem set_comm (d : Dir) : (commM d).view.set = Finset.univ := by
  cases d <;> exact View.set_whole _

theorem set_halves (d : Dir) (p : Fin 2) : (viewP d p).view.set = (viewQ d p 0).view.set ∪ (viewQ d p 1).view.set := by
  rw [set_viewP, set_viewQ, set_viewQ, rectP_halves, Finset.map_union]
theorem disjoint_halves (d : Dir) (p : Fin 2) : Disjoint (viewQ d p 0).view.set (viewQ d p 1).view.set := by
  rw [set_viewQ, set_viewQ]; exact (Finset.disjoint_map _).mpr (rectQ_disjoint p)
theorem set_slots (d : Dir) : (commM d).view.set = (viewP d 0).view.set ∪ (viewP d 1).view.set := by
  rw [set_viewP, set_viewP, ← Finset.map_union, ← rect_slots]; rfl
theorem disjoint_slots (d : Dir) : Disjoint (viewP d 0).view.set (viewP d 1).view.set := by
  rw [set_viewP, set_viewP]; exact (Finset.disjoint_map _).mpr rectP_disjoint

/-! ## Splitting and joining -/

theorem Q_shares (d : Dir) (p q : Fin 2) (X : Chunk F) (c : Dev nD) :
    (Q d p q fullShare X c : sProp 𝕄) ⊣⊢ iprop(Q d p q fullShare.left X c ∗ Q d p q fullShare.right X c) := by
  unfold Q; exact pointsTo_share (PosShare.mem_left_op_right fullShare)
theorem Q_any (d : Dir) (p q : Fin 2) (X : Chunk F) (c : Dev nD) : (Q d p q fullShare X c : sProp 𝕄) ⊢ Qany d p q c := by
  unfold Q Qany; iintro H; iexists _; iexact H
theorem P_halves (d : Dir) (p : Fin 2) (π : PosShare TreeShare) (X : Chunk F) (c : Dev nD) :
    (P d p π X c : sProp 𝕄) ⊣⊢ iprop(Q d p 0 π X c ∗ Q d p 1 π X c) := by
  unfold P Q
  rw [set_halves]
  exact pointsTo_union (disjoint_halves d p)

/-- The whole ring buffer of a direction, with nothing known of what it holds. -/
def commAny (d : Dir) (c : Dev nD) : sProp 𝕄 :=
  iprop(∃ f : Buf (Elt F) ((commM d).view.loc (c : Thread nD τ)), (commM d).view.loc (c : Thread nD τ) ↦[(commM d).view.set]{fullShare} f)

theorem comm_split (d : Dir) (c : Dev nD) :
    (commAny (F := F) d c : sProp 𝕄) ⊢ iprop((Qany d 0 0 c ∗ Qany d 0 1 c) ∗ (Qany d 1 0 c ∗ Qany d 1 1 c)) := by
  unfold commAny Qany
  iintro ⟨%f, H⟩
  rw [set_slots]
  ihave H' := (pointsTo_union (disjoint_slots d)).1 $$ H
  rw [set_halves, set_halves]
  icases H' with ⟨H0, H1⟩
  ihave H0' := (pointsTo_union (disjoint_halves d 0)).1 $$ H0
  ihave H1' := (pointsTo_union (disjoint_halves d 1)).1 $$ H1
  icases H0' with ⟨A, B⟩
  icases H1' with ⟨C, D⟩
  isplitl [A B]
  · isplitl [A]
    · iexists f; iexact A
    · iexists f; iexact B
  · isplitl [C]
    · iexists f; iexact C
    · iexists f; iexact D

theorem comm_join (d : Dir) (c : Dev nD) :
    iprop((Qany d 0 0 c ∗ Qany d 0 1 c) ∗ (Qany d 1 0 c ∗ Qany d 1 1 c)) ⊢ (commAny (F := F) d c : sProp 𝕄) := by
  unfold commAny Qany
  iintro ⟨⟨⟨%f0, A⟩, %f1, B⟩, ⟨%f2, C⟩, %f3, D⟩
  ihave H0 := (pointsTo_join (ℓ := (commM d).view.loc (c : Thread nD τ)) (disjoint_halves d 0)) $$ [A B]
  · isplitl [A] <;> iassumption
  ihave H1 := (pointsTo_join (ℓ := (commM d).view.loc (c : Thread nD τ)) (disjoint_halves d 1)) $$ [C D]
  · isplitl [C] <;> iassumption
  rw [← set_halves, ← set_halves]
  ihave H := (pointsTo_join (ℓ := (commM d).view.loc (c : Thread nD τ)) (disjoint_slots d)) $$ [H0 H1]
  · isplitl [H0] <;> iassumption
  rw [← set_slots]
  iexists _; iexact H

/-! ## What the transfers leave -/

/-- Half a chunk transferred into a quarter. -/
theorem Q_landed (d : Dir) (p p' q : Fin 2) (c c' : Dev nD) (X : Chunk F) (f : Buf (Elt F) ((viewQ d p' q).view.loc (c' : Thread nD τ))) :
    ((viewQ d p' q).view.loc (c' : Thread nD τ) ↦[(viewQ d p' q).view.set]{fullShare}
        (viewQ d p' q).view.write (Elt F) f ((viewQ d p q).view.read (Elt F) (bufOf d c X)) Finset.univ : sProp 𝕄)
      = Q d p' q fullShare X c' := by
  unfold Q
  exact pointsTo_congr (write_of_read (viewQ d p' q).view f (bufOf d c' X) _ (by rw [read_viewQ]; exact (read_viewQ d c p q X).symm))

/-- A chunk copied to its block of the result. -/
theorem B_copied (I : Operands F) (d : Dir) (t : ℕ) (ht : t < 16) (p : Fin 2) (c : Dev nD) (f : Buf (Elt F) ((outB c d (num16 t)).view.loc (c : Thread nD τ))) :
    ((outB c d (num16 t)).view.loc (c : Thread nD τ) ↦[(outB c d (num16 t)).view.set]{fullShare}
        (outB c d (num16 t)).view.write (Elt F) f ((viewP d p).view.read (Elt F) (bufOf d c (V I d (15 + t) c))) Finset.univ : sProp 𝕄)
      = B I d t c := by
  unfold B
  refine pointsTo_congr (write_of_read (outB c d (num16 t)).view f (outV I) _ ?_)
  rw [read_viewP, outB_read]
  show V I d (15 + t % 16) c = _
  rw [Nat.mod_eq_of_lt ht]

/-- A store of half a chunk into a quarter. -/
theorem Q_stored (d : Dir) (p q : Fin 2) (c : Dev nD) (X : Chunk F) (w : Vec F S1x128x4096 .bf16) (hw : slab q X = w)
    (f : Buf (Elt F) ((commM d).view.loc (c : Thread nD τ))) :
    ((viewQ d p q).view.loc (c : Thread nD τ) ↦[(viewQ d p q).view.set]{fullShare}
        ((commM d).access (rectQ p q) : View sig .tc _ _ _).write (Elt F) f w Finset.univ : sProp 𝕄)
      = Q d p q fullShare X c := by
  unfold Q
  refine pointsTo_congr fun i hi => ?_
  refine write_of_read ((commM d).access (rectQ p q)) f (bufOf d c X) w ?_ i ?_
  · exact (load_comm d c p q X).trans hw
  · rw [set_viewQ] at hi
    show i ∈ ((commM d).view.slice (rectQ p q)).set
    rw [View.set_slice]; exact hi

/-- A load of a quarter touches that quarter. -/
theorem load_sub (d : Dir) (p q : Fin 2) : (commM d).view.setOn (rectQ p q).toLoadRect.set ⊆ (viewQ d p q).view.set := by
  rw [set_viewQ]; exact subset_rfl
/-- So does a store. -/
theorem store_sub (d : Dir) (p q : Fin 2) : ((commM d).access (rectQ p q)).setOn Finset.univ ⊆ (viewQ d p q).view.set := by
  rw [set_viewQ]
  show ((commM d).view.slice (rectQ p q)).set ⊆ _
  rw [View.set_slice]

end Cert.RingProof

end
-- ==== Proof.Lane.lean ====
/-
# One lane's operations

A lane (a direction with a half) goes round a cycle of three states: idle before step `s`, the credit for step
`s` given, the transfer of step `s` under way. This module gives the state's tokens and proves what each of the
lane's operations needs and leaves: giving a credit, waiting for one and starting the transfer, and waiting
until the transfer out is read and the one in has landed.
-/
module

public import proofs.«01_k».proof.Proof.Regions

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- What a program on device `c` is proved to do. -/
abbrev run (c : Dev nD) {α : Type} (p : Pg F α) (Φ : α → sProp 𝕄) : sProp 𝕄 :=
  wp frame (wpE (defs₀ (F := F)) 𝒱₀ (c : Thread nD τ) none) Set.univ p Φ

/-! ## What every device knows -/

variable (I : Operands F) (K : Dev nD × Option Own → ℕ)

/-- The invariants of all cells, and the levels. -/
def Ctx : sProp 𝕄 :=
  iprop((bigSep Finset.univ fun ck : Dev nD × Option Own => cellInv ER (Rd I) (K ck) (kcell ck)) ∗ levAts L lv)
instance Ctx_persistent : BI.Persistent (Ctx I K) := by unfold Ctx; infer_instance

theorem cells_inv (ck : Dev nD × Option Own) :
    (bigSep Finset.univ fun ck : Dev nD × Option Own => (cellInv ER (Rd I) (K ck) (kcell ck) : sProp 𝕄)) ⊢ cellInv ER (Rd I) (K ck) (kcell ck) :=
  bigSep_elim (Finset.mem_univ ck)
theorem ctx_inv (ck : Dev nD × Option Own) : Ctx I K ⊢ cellInv ER (Rd I) (K ck) (kcell ck) := by
  unfold Ctx
  iintro ⟨H, -⟩
  iapply (cells_inv I K ck) $$ H
theorem ctx_lev : Ctx I K ⊢ (levAts L lv : sProp 𝕄) := by
  unfold Ctx
  iintro ⟨-, H⟩
  iexact H

/-- What a device owes, whatever it has waited for. -/
def Owe (c : Dev nD) (O : CellTallies nD τ sig ℕ) : sProp 𝕄 := iprop(∃ W, owes (c : Thread nD τ) O W)

/-! ## A lane's tokens -/

/-- The owner is at round `r` of a cell. -/
def At (g : GSem nD τ sig) (r : ℕ) : sProp 𝕄 := iprop(atPos ER g r ∅ 0 ∗ reached ER g r)

theorem at_pos {g : GSem nD τ sig} {r : ℕ} : (At g r : sProp 𝕄) ⊢ atPos ER g r ∅ 0 := by
  unfold At; iintro ⟨H, -⟩; iexact H
theorem at_intro {g : GSem nD τ sig} {r : ℕ} : iprop(atPos ER g r ∅ 0 ∗ reached ER g r) ⊢ (At g r : sProp 𝕄) := .rfl

/-- The credits still to wait for. -/
def CreditW (c : Dev nD) (d : Dir) (q : Fin 2) (s : ℕ) : sProp 𝕄 :=
  iprop(At (creditC d q c) s ∗ bigSep (Finset.Ico s 30) fun r => cred (tallyAt (creditC d q c) (lvC r q) 1))
/-- The credits still to give. -/
def GrantT (c : Dev nD) (d : Dir) (q : Fin 2) (n : ℕ) : sProp 𝕄 :=
  bigSep (Finset.Ico n 30) fun r => dutyTok ER (creditC d q (src d c)) r false
/-- The transfers still to start. -/
def SendT (c : Dev nD) (d : Dir) (q : Fin 2) (s : ℕ) : sProp 𝕄 :=
  bigSep (Finset.Ico s 30) fun r => iprop(dutyTok ER (sendC d (slot r) q c) (r / 2) false
    ∗ dutyTok ER (recvC d (slot (r + 1)) q (tgt d c)) (r / 2) false)
/-- The positions in the two sending cells. -/
def SendW (c : Dev nD) (d : Dir) (q : Fin 2) (w : ℕ) : sProp 𝕄 :=
  iprop(At (sendC d (slot w) q c) (w / 2) ∗ At (sendC d (slot (w + 1)) q c) ((w + 1) / 2))
/-- The positions in the two landing cells, and the landings still to wait for. -/
def RecvW (c : Dev nD) (d : Dir) (q : Fin 2) (w : ℕ) : sProp 𝕄 :=
  iprop((At (recvC d (slot (w + 1)) q c) (w / 2) ∗ At (recvC d (slot (w + 2)) q c) ((w + 1) / 2))
    ∗ bigSep (Finset.Ico w 30) fun r => cred (tallyAt (recvC d (slot (r + 1)) q c) (lvR r q) N))

/-- Before step `s`: the credit for it not given yet. -/
def Idle (c : Dev nD) (d : Dir) (q : Fin 2) (s : ℕ) : sProp 𝕄 :=
  iprop(CreditW c d q s ∗ GrantT c d q s ∗ SendT c d q s ∗ SendW c d q s ∗ RecvW c d q s ∗ reached ER (creditC d q (src d c)) s)
/-- The credit for step `s` given. -/
def Granted (c : Dev nD) (d : Dir) (q : Fin 2) (s : ℕ) : sProp 𝕄 :=
  iprop(CreditW c d q s ∗ GrantT c d q (s + 1) ∗ SendT c d q s ∗ SendW c d q s ∗ RecvW c d q s)
/-- The transfer of step `s` started. -/
def Flying (c : Dev nD) (d : Dir) (q : Fin 2) (s : ℕ) : sProp 𝕄 :=
  iprop((CreditW c d q (s + 1) ∗ GrantT c d q (s + 1) ∗ SendT c d q (s + 1) ∗ SendW c d q s ∗ RecvW c d q s)
    ∗ cred (tallyAt (sendC d (slot s) q c) 0 N))

theorem bigSep_next {n : ℕ} (h : n < 30) (Φ : ℕ → sProp 𝕄) : bigSep (Finset.Ico n 30) Φ = iprop(Φ n ∗ bigSep (Finset.Ico (n + 1) 30) Φ) := by
  rw [← Finset.insert_Ico_add_one_left_eq_Ico h]
  exact bigSep_insert (by rw [Finset.mem_Ico]; omega)

theorem grantT_next {c : Dev nD} {d : Dir} {q : Fin 2} {n : ℕ} (h : n < 30) :
    (GrantT c d q n : sProp 𝕄) ⊢ iprop(dutyTok ER (creditC d q (src d c)) n false ∗ GrantT c d q (n + 1)) := Entails.of_eq (bigSep_next h _)
theorem sendT_next {c : Dev nD} {d : Dir} {q : Fin 2} {n : ℕ} (h : n < 30) :
    (SendT c d q n : sProp 𝕄) ⊢ iprop((dutyTok ER (sendC d (slot n) q c) (n / 2) false
      ∗ dutyTok ER (recvC d (slot (n + 1)) q (tgt d c)) (n / 2) false) ∗ SendT c d q (n + 1)) := Entails.of_eq (bigSep_next h _)
theorem creditW_next {c : Dev nD} {d : Dir} {q : Fin 2} {n : ℕ} (h : n < 30) :
    (bigSep (Finset.Ico n 30) fun r => (cred (tallyAt (creditC d q c) (lvC r q) 1) : sProp 𝕄))
      ⊢ iprop(cred (tallyAt (creditC d q c) (lvC n q) 1) ∗ bigSep (Finset.Ico (n + 1) 30) fun r => cred (tallyAt (creditC d q c) (lvC r q) 1)) :=
  Entails.of_eq (bigSep_next h _)
theorem recvW_next {c : Dev nD} {d : Dir} {q : Fin 2} {n : ℕ} (h : n < 30) :
    (bigSep (Finset.Ico n 30) fun r => (cred (tallyAt (recvC d (slot (r + 1)) q c) (lvR r q) N) : sProp 𝕄))
      ⊢ iprop(cred (tallyAt (recvC d (slot (n + 1)) q c) (lvR n q) N)
        ∗ bigSep (Finset.Ico (n + 1) 30) fun r => cred (tallyAt (recvC d (slot (r + 1)) q c) (lvR r q) N)) :=
  Entails.of_eq (bigSep_next h _)

theorem slot_two (s : ℕ) : slot (s + 2) = slot s := Fin.ext (by show (s + 2) % 2 = s % 2; omega)
theorem step_of_recv (s : ℕ) : 2 * (s / 2) + 1 - (slot (s + 1)).val = s := by show 2 * (s / 2) + 1 - (s + 1) % 2 = s; omega
theorem step_of_send (s : ℕ) : 2 * (s / 2) + (slot s).val = s := by show 2 * (s / 2) + s % 2 = s; omega

/-! ## Giving a credit -/

/-- What comes with the credit for step `s`: the half's next slot, and that its landing cell is at its round. -/
theorem credit_pay (c : Dev nD) (d : Dir) (q : Fin 2) (s : ℕ) :
    iprop(Qany d (slot (s + 1)) q c ∗ reached ER (recvC d (slot (s + 1)) q c) (s / 2)) ⊢ (Rd I).payload (creditC d q (src d c)) s false := by
  have h : (Rd I).payload (creditC d q (src d c)) s false
      = iprop(Qany d (slot (s + 1)) q (tgt d (src d c)) ∗ reached ER (recvC d (slot (s + 1)) q (tgt d (src d c))) (s / 2)) :=
    payload_k I (src d c, some (.credit d q)) s false
  rw [h, tgt_src]

theorem run_grant (c : Dev nD) (d : Dir) (q : Fin 2) (s : ℕ) (hs : s < 30) (n σ n' : Lane → ℕ) (hn : n (d, q) = s)
    (hn' : n' = Function.update n (d, q) (s + 1)) (Φ : PUnit → sProp 𝕄) :
    iprop(Ctx I K ∗ Idle c d q s ∗ Qany d (slot (s + 1)) q c ∗ Owe c (owed c n σ))
      ⊢ iprop(((Granted c d q s ∗ Owe c (owed c n' σ)) -∗ Φ ⟨⟩) -∗ run c (grantOp c d q) Φ) := by
  unfold Idle Granted Owe run
  iintro ⟨#HC, ⟨HCr, HG, HS, HSW, HRW, #Hr⟩, Hq, ⟨%W, HO⟩⟩ Hk
  unfold grantOp
  simp only [semSignalWord, Prog.lift, Prog.bind_op, Prog.bind_ret, Prog.pure_eq_ret]
  unfold RecvW At
  ihave HG := (grantT_next hs) $$ HG
  icases HG with ⟨Ht, HG⟩
  icases HRW with ⟨⟨⟨Ha1, #Hr1⟩, HRW2⟩, HRW3⟩
  have hmem := mem_duties_k I (src d c, some (.credit d q)) s (if_pos hs)
  have hO : owed c n σ = owed c n' σ + tallyAt (creditC d q (src d c)) (lvC s q) 1 := by
    have := owed_grant c (d, q) n n' σ (by rw [hn]; exact hs) (by rw [hn]; exact hn')
    rw [hn] at this; exact this
  iapply (Rounds.wp_signal 𝒱₀ ER (Rd I) (c : Thread nD τ) none (dst := (src d c : Thread nD τ)) (κ := K (src d c, some (.credit d q)))
      (r := s) (d := false) hmem ((amount_k I (src d c, some (.credit d q)) s false).trans rfl) (lvC s q) (owed c n' σ) hO)
    $$ [HO Ht Hq]
  · isplitr; · iapply (ctx_inv I K (src d c, some (.credit d q))); iexact HC
    isplitl [HO]; · iexact HO
    isplitl [Ht]; · iexact Ht
    isplitl [Hq]
    · iapply (credit_pay I c d q s)
      isplitl [Hq]; · iexact Hq
      iexact Hr1
    iexact Hr
  iintro HO
  rw [wp_ret]; imodintro
  iapply Hk
  isplitr [HO]
  · isplitl [HCr]; · iexact HCr
    isplitl [HG]; · iexact HG
    isplitl [HS]; · iexact HS
    isplitl [HSW]; · iexact HSW
    isplitr [HRW3]
    · isplitl [Ha1]
      · isplitl [Ha1]; · iexact Ha1
        iexact Hr1
      iexact HRW2
    iexact HRW3
  · iexists W; iexact HO

/-! ## Waiting for a credit, and starting a transfer -/

set_option maxRecDepth 10000 in
/-- A wait at a level below everything owed. -/
theorem ctx_wait (c : Dev nD) (sm : SemLoc sig) (l : ℕ) (hl : l < 200) (O : CellTallies nD τ sig ℕ) (hO : Above l O) :
    Ctx I K ⊢ (MayWait (c : Thread nD τ) sm l O : sProp 𝕄) := (ctx_lev I K).trans (mayWait_above c sm hl hO)
theorem lvC_lt {s : ℕ} (hs : s < 30) (q : Fin 2) : lvC s q < 200 := by unfold lvC; omega
theorem lvR_lt {s : ℕ} (hs : s < 30) (q : Fin 2) : lvR s q < 200 := by unfold lvR; omega

theorem run_credit (c : Dev nD) (d : Dir) (q : Fin 2) (s : ℕ) (hs : s < 30) (O : CellTallies nD τ sig ℕ) (hO : Above (lvC s q) O)
    (Φ : PUnit → sProp 𝕄) :
    iprop(Ctx I K ∗ CreditW c d q s ∗ Owe c O)
      ⊢ iprop(((CreditW c d q (s + 1) ∗ Owe c O ∗ Qany d (slot (s + 1)) q (tgt d c) ∗ reached ER (recvC d (slot (s + 1)) q (tgt d c)) (s / 2)) -∗ Φ ⟨⟩)
        -∗ run c (creditOp d q) Φ) := by
  unfold CreditW Owe run
  iintro ⟨#HC, ⟨Ha, Hcs⟩, ⟨%W, HO⟩⟩ Hk
  unfold creditOp
  simp only [semWaitWord, Prog.lift, Prog.bind_op, Prog.bind_ret, Prog.pure_eq_ret]
  unfold At
  icases Ha with ⟨Ha, -⟩
  ihave Hcs := (creditW_next hs) $$ Hcs
  icases Hcs with ⟨Hc, Hcs⟩
  iapply (Rounds.wp_wait_rest_token 𝒱₀ ER (Rd I) (c : Thread nD τ) none (κ := K (c, some (.credit d q)))
      (wpE_semWait_eq 𝒱₀ (c : Thread nD τ) none Set.univ) (Set.mem_univ _) (lvC s q) (O := O) (W := W) (R := s) (m := 0) (T := ∅)
      ((Nat.zero_add _).trans (expect_k I (c, some (.credit d q)) s (if_pos hs)).symm)) $$ [HO Hc Ha]
  · isplitr; · iapply (ctx_inv I K (c, some (.credit d q))); iexact HC
    isplitl [Hc]; · iexact Hc
    isplitl [HO]; · iexact HO
    isplitr
    · iapply (ctx_wait I K c _ (lvC s q) (lvC_lt hs q) O hO); iexact HC
    iexact Ha
  iintro ⟨HO, Ha, Hr, Hpay⟩
  ihave Hp := (Entails.of_eq ((rest_k I (c, some (.credit d q)) s (if_pos hs)).trans (show payOf I c (some (.credit d q)) s
    = iprop(Qany d (slot (s + 1)) q (tgt d c) ∗ reached ER (recvC d (slot (s + 1)) q (tgt d c)) (s / 2)) from rfl))) $$ Hpay
  rw [wp_ret]; imodintro
  iapply Hk
  isplitl [Ha Hr Hcs]
  · isplitl [Ha Hr]
    · isplitl [Ha]; · iexact Ha
      iexact Hr
    iexact Hcs
  isplitl [HO]; · iexists _; iexact HO
  iexact Hp

/-- What the transfer of step `s` leaves where it was read. -/
theorem send_pay (c : Dev nD) (d : Dir) (q : Fin 2) (s : ℕ) :
    (Rd I).payload (sendC d (slot s) q c) (s / 2) false = Q d (slot s) q fullShare.left (V I d s c) c := by
  have h : (Rd I).payload (sendC d (slot s) q c) (s / 2) false
      = Q d (slot s) q fullShare.left (V I d (2 * (s / 2) + (slot s).val) c) c :=
    payload_k I (c, some (.send d (slot s) q)) (s / 2) false
  rw [h, step_of_send]
/-- What the transfer of step `s` brings. -/
theorem recv_pay (c : Dev nD) (d : Dir) (q : Fin 2) (s : ℕ) :
    (Rd I).payload (recvC d (slot (s + 1)) q c) (s / 2) false
      = iprop(Q d (slot (s + 1)) q fullShare (V I d s (src d c)) c ∗ reached ER (creditC d q (src d c)) (s + 1)) := by
  have h : (Rd I).payload (recvC d (slot (s + 1)) q c) (s / 2) false
      = iprop(Q d (slot (s + 1)) q fullShare (V I d (2 * (s / 2) + 1 - (slot (s + 1)).val) (src d c)) c
        ∗ reached ER (creditC d q (src d c)) (2 * (s / 2) + 1 - (slot (s + 1)).val + 1)) :=
    payload_k I (c, some (.recv d (slot (s + 1)) q)) (s / 2) false
  rw [h, step_of_recv]

theorem NW_eq (d : Dir) (p q : Fin 2) : (viewQ d p q).view.dmaCredit = N := by
  cases d <;> rfl
theorem half_lt {s : ℕ} (hs : s < 30) : s / 2 < 15 := by omega

theorem run_send (c : Dev nD) (d : Dir) (q : Fin 2) (s : ℕ) (hs : s < 30) (n σ σ' : Lane → ℕ) (hσ : σ (d, q) = s)
    (hσ' : σ' = Function.update σ (d, q) (s + 1)) (Φ : PUnit → sProp 𝕄) :
    iprop(Ctx I K ∗ SendT c d q s ∗ reached ER (sendC d (slot s) q c) (s / 2) ∗ reached ER (creditC d q c) (s + 1)
        ∗ Q d (slot s) q fullShare.left (V I d s c) c
        ∗ (Qany d (slot (s + 1)) q (tgt d c) ∗ reached ER (recvC d (slot (s + 1)) q (tgt d c)) (s / 2))
        ∗ Owe c (owed c n σ))
      ⊢ iprop(((SendT c d q (s + 1) ∗ cred (tallyAt (sendC d (slot s) q c) 0 N) ∗ Owe c (owed c n σ')) -∗ Φ ⟨⟩)
        -∗ run c (sendOp c d (slot s) (slot (s + 1)) q) Φ) := by
  unfold Owe run Qany Q
  iintro ⟨#HC, HT, #Hrs, #Hrc, HQ, ⟨⟨%f, Hd⟩, #Hrr⟩, ⟨%W, HO⟩⟩ Hk
  unfold sendOp
  simp only [Prog.lift]
  ihave HT := (sendT_next hs) $$ HT
  icases HT with ⟨⟨Ht1, Ht2⟩, HT⟩
  have hm1 := mem_duties_k I (c, some (.send d (slot s) q)) (s / 2) (if_pos (half_lt hs))
  have hm2 := mem_duties_k I (tgt d c, some (.recv d (slot (s + 1)) q)) (s / 2) (if_pos (half_lt hs))
  have hO : owed c n σ = owed c n σ' + tallyAt (recvC d (slot (s + 1)) q (tgt d c)) (lvR s q) N := by
    have := owed_send c (d, q) n σ σ' (by rw [hσ]; exact hs) (by rw [hσ]; exact hσ')
    rw [hσ] at this; exact this
  iapply (Rounds.wp_send_pointsTo_with 𝒱₀ ER (Rd I) (c : Thread nD τ) none (c' := (tgt d c : Thread nD τ)) (src := viewQ d (slot s) q) (dst := viewQ d (slot (s + 1)) q)
      (κ₁ := K (c, some (.send d (slot s) q))) (κ₂ := K (tgt d c, some (.recv d (slot (s + 1)) q)))
      (r₁ := s / 2) (r₂ := s / 2) (d₁ := false) (d₂ := false) (q := fullShare.left) (fs := bufOf d c (V I d s c)) (fd := f)
      (F := reached ER (creditC d q c) (s + 1)) hm1 hm2 (lvR s q) 0 N
      (N_eq d (slot (s + 1)) q _) (amount_k I (c, some (.send d (slot s) q)) (s / 2) false)
      (amount_k I (tgt d c, some (.recv d (slot (s + 1)) q)) (s / 2) false) (owed c n σ') hO
      (Entails.of_eq (send_pay I c d q s).symm)
      (by
        show _ ⊢ (Rd I).payload (recvC d (slot (s + 1)) q (tgt d c)) (s / 2) false
        rw [recv_pay, src_tgt, Q_landed])) $$ [HQ Hd HO Ht1 Ht2]
  · isplitr; · iapply (ctx_inv I K (c, some (.send d (slot s) q))); iexact HC
    isplitr; · iapply (ctx_inv I K (tgt d c, some (.recv d (slot (s + 1)) q))); iexact HC
    isplitl [HQ]; · iexact HQ
    isplitl [Hd]
    · isplitl [Hd]; · iexact Hd
      iexact Hrc
    isplitl [HO]; · iexact HO
    isplitl [Ht1]; · iexact Ht1
    isplitr; · iexact Hrs
    isplitl [Ht2]; · iexact Ht2
    iexact Hrr
  iintro ⟨Hcr, HO⟩
  rw [wp_ret]; imodintro
  iapply Hk
  isplitl [HT]; · iexact HT
  isplitl [Hcr]; · iexact Hcr
  iexists W; iexact HO

/-- The credit for step `s` waited for and the transfer started. -/
theorem run_issue (c : Dev nD) (d : Dir) (q : Fin 2) (s : ℕ) (hs : s < 30) (n σ σ' : Lane → ℕ) (hσ : σ (d, q) = s)
    (hσ' : σ' = Function.update σ (d, q) (s + 1)) (hO : Above (lvC s q) (owed c n σ)) (Φ : PUnit → sProp 𝕄) :
    iprop(Ctx I K ∗ Granted c d q s ∗ Q d (slot s) q fullShare (V I d s c) c ∗ Owe c (owed c n σ))
      ⊢ iprop(((Flying c d q s ∗ Q d (slot s) q fullShare.right (V I d s c) c ∗ Owe c (owed c n σ')) -∗ Φ ⟨⟩)
        -∗ run c (creditOp d q >>= fun _ => sendOp c d (slot s) (slot (s + 1)) q) Φ) := by
  have hb : run c (creditOp d q >>= fun _ => sendOp c d (slot s) (slot (s + 1)) q) Φ
      = run c (creditOp d q) (fun _ => run c (sendOp c d (slot s) (slot (s + 1)) q) Φ) := wp_bind ..
  rw [hb]
  unfold Granted Flying
  iintro ⟨#HC, ⟨HCr, HG, HS, HSW, HRW⟩, HQ, HO⟩ Hk
  iapply (run_credit I K c d q s hs (owed c n σ) hO) $$ [HCr HO]
  · isplitr; · iexact HC
    isplitl [HCr]; · iexact HCr
    iexact HO
  iintro ⟨HCr, HO, Hd⟩
  unfold CreditW SendW At
  icases HCr with ⟨⟨Ha, #Hra⟩, Hcs⟩
  icases HSW with ⟨⟨Hs0, #Hs0r⟩, Hs1⟩
  ihave HQ := (Q_shares d (slot s) q (V I d s c) c).1 $$ HQ
  icases HQ with ⟨HQl, HQr⟩
  iapply (run_send I K c d q s hs n σ σ' hσ hσ') $$ [HS HQl Hd HO]
  · isplitr; · iexact HC
    isplitl [HS]; · iexact HS
    isplitr; · iexact Hs0r
    isplitr; · iexact Hra
    isplitl [HQl]; · iexact HQl
    isplitl [Hd]; · iexact Hd
    iexact HO
  iintro ⟨HS, Hcr, HO⟩
  iapply Hk
  isplitr [HQr HO]
  · isplitr [Hcr]
    · isplitl [Ha Hcs]
      · isplitl [Ha]
        · isplitl [Ha]; · iexact Ha
          iexact Hra
        iexact Hcs
      isplitl [HG]; · iexact HG
      isplitl [HS]; · iexact HS
      isplitl [Hs0 Hs1]
      · isplitl [Hs0]
        · isplitl [Hs0]; · iexact Hs0
          iexact Hs0r
        iexact Hs1
      iexact HRW
    iexact Hcr
  isplitl [HQr]; · iexact HQr
  iexact HO

/-! ## Waiting for a transfer -/

theorem sendW_next (c : Dev nD) (d : Dir) (q : Fin 2) (s : ℕ) :
    iprop(At (sendC d (slot (s + 1)) q c) ((s + 1) / 2) ∗ At (sendC d (slot s) q c) (s / 2 + 1)) ⊢ (SendW c d q (s + 1) : sProp 𝕄) := by
  unfold SendW
  rw [show s + 1 + 1 = s + 2 from rfl, slot_two, show (s + 2) / 2 = s / 2 + 1 by omega]
theorem recvW_pos (c : Dev nD) (d : Dir) (q : Fin 2) (s : ℕ) :
    (At (recvC d (slot (s + 1)) q c) (s / 2 + 1) : sProp 𝕄) ⊢ At (recvC d (slot (s + 1 + 2)) q c) ((s + 1 + 1) / 2) := by
  rw [slot_two, show (s + 1 + 1) / 2 = s / 2 + 1 by omega]

theorem run_sent (c : Dev nD) (d : Dir) (q : Fin 2) (s : ℕ) (hs : s < 30) (O : CellTallies nD τ sig ℕ) (hO : Above 0 O)
    (Φ : PUnit → sProp 𝕄) :
    iprop(Ctx I K ∗ SendW c d q s ∗ cred (tallyAt (sendC d (slot s) q c) 0 N) ∗ Owe c O)
      ⊢ iprop(((SendW c d q (s + 1) ∗ Q d (slot s) q fullShare.left (V I d s c) c ∗ Owe c O) -∗ Φ ⟨⟩)
        -∗ run c (sentOp d (slot s) (slot (s + 1)) q) Φ) := by
  unfold Owe run
  iintro ⟨#HC, HSW, Hc, ⟨%W, HO⟩⟩ Hk
  unfold sentOp
  simp only [Prog.lift]
  ihave HSW := (Entails.of_eq (show (SendW c d q s : sProp 𝕄) = iprop(At (sendC d (slot s) q c) (s / 2) ∗ At (sendC d (slot (s + 1)) q c) ((s + 1) / 2)) from rfl)) $$ HSW
  icases HSW with ⟨Ha, Hb⟩
  ihave Ha := at_pos $$ Ha
  have he : 0 + N = (Rd I).expect (sendC d (slot s) q c) (s / 2) :=
    (Nat.zero_add _).trans (expect_k I (c, some (.send d (slot s) q)) (s / 2) (if_pos (half_lt hs))).symm
  iapply (Rounds.wp_wait_rest_token 𝒱₀ ER (Rd I) (c : Thread nD τ) none (κ := K (c, some (.send d (slot s) q)))
      (wpE_waitDma2_eq 𝒱₀ (c : Thread nD τ) none Set.univ) (Set.mem_univ _) 0 (O := O) (W := W) (R := s / 2) (m := 0) (T := ∅)
      (by rw [NW_eq]; exact he)) $$ [HO Hc Ha]
  · isplitr; · iapply (ctx_inv I K (c, some (.send d (slot s) q))); iexact HC
    isplitl [Hc]; · rw [NW_eq]; iexact Hc
    isplitl [HO]; · iexact HO
    isplitr
    · iapply (ctx_wait I K c _ 0 (Nat.zero_lt_succ _) O hO); iexact HC
    iexact Ha
  iintro ⟨HO, Ha, Hr, Hpay⟩
  ihave Hp := (Entails.of_eq ((rest_k I (c, some (.send d (slot s) q)) (s / 2) (if_pos (half_lt hs))).trans
    ((payload_k I (c, some (.send d (slot s) q)) (s / 2) false).symm.trans (send_pay I c d q s)))) $$ Hpay
  rw [wp_ret]; imodintro
  iapply Hk
  isplitl [Ha Hr Hb]
  · iapply (sendW_next c d q s)
    isplitl [Hb]; · iexact Hb
    iapply at_intro
    isplitl [Ha]; · iexact Ha
    iexact Hr
  isplitl [Hp]; · iexact Hp
  iexists _; iexact HO

theorem run_landed (c : Dev nD) (d : Dir) (q : Fin 2) (s : ℕ) (hs : s < 30) (O : CellTallies nD τ sig ℕ) (hO : Above (lvR s q) O)
    (Φ : PUnit → sProp 𝕄) :
    iprop(Ctx I K ∗ RecvW c d q s ∗ Owe c O)
      ⊢ iprop(((RecvW c d q (s + 1) ∗ Q d (slot (s + 1)) q fullShare (V I d s (src d c)) c ∗ reached ER (creditC d q (src d c)) (s + 1) ∗ Owe c O) -∗ Φ ⟨⟩)
        -∗ run c (landedOp d (slot s) (slot (s + 1)) q) Φ) := by
  unfold Owe run
  iintro ⟨#HC, HRW, ⟨%W, HO⟩⟩ Hk
  unfold landedOp
  simp only [Prog.lift]
  unfold RecvW
  icases HRW with ⟨⟨Ha, Hb⟩, Hcs⟩
  ihave Ha := at_pos $$ Ha
  ihave Hcs := (recvW_next hs) $$ Hcs
  icases Hcs with ⟨Hc, Hcs⟩
  have he : 0 + N = (Rd I).expect (recvC d (slot (s + 1)) q c) (s / 2) :=
    (Nat.zero_add _).trans (expect_k I (c, some (.recv d (slot (s + 1)) q)) (s / 2) (if_pos (half_lt hs))).symm
  iapply (Rounds.wp_wait_rest_token 𝒱₀ ER (Rd I) (c : Thread nD τ) none (κ := K (c, some (.recv d (slot (s + 1)) q)))
      (wpE_waitDma2_eq 𝒱₀ (c : Thread nD τ) none Set.univ) (Set.mem_univ _) (lvR s q) (O := O) (W := W) (R := s / 2) (m := 0) (T := ∅)
      (by rw [NW_eq]; exact he)) $$ [HO Hc Ha]
  · isplitr; · iapply (ctx_inv I K (c, some (.recv d (slot (s + 1)) q))); iexact HC
    isplitl [Hc]; · rw [NW_eq]; iexact Hc
    isplitl [HO]; · iexact HO
    isplitr
    · iapply (ctx_wait I K c _ (lvR s q) (lvR_lt hs q) O hO); iexact HC
    iexact Ha
  iintro ⟨HO, Ha, Hr, Hpay⟩
  ihave Hp := (Entails.of_eq ((rest_k I (c, some (.recv d (slot (s + 1)) q)) (s / 2) (if_pos (half_lt hs))).trans
    ((payload_k I (c, some (.recv d (slot (s + 1)) q)) (s / 2) false).symm.trans (recv_pay I c d q s)))) $$ Hpay
  icases Hp with ⟨Hp, Hr'⟩
  rw [wp_ret]; imodintro
  iapply Hk
  isplitl [Ha Hr Hb Hcs]
  · isplitr [Hcs]
    · isplitl [Hb]; · iexact Hb
      iapply (recvW_pos c d q s)
      iapply at_intro
      isplitl [Ha]; · iexact Ha
      iexact Hr
    iexact Hcs
  isplitl [Hp]; · iexact Hp
  isplitl [Hr']; · iexact Hr'
  iexists _; iexact HO

/-- The transfer out read and the transfer in landed. -/
theorem run_await (c : Dev nD) (d : Dir) (q : Fin 2) (s : ℕ) (hs : s < 30) (O : CellTallies nD τ sig ℕ) (hO : Above (lvR s q) O)
    (Φ : PUnit → sProp 𝕄) :
    iprop(Ctx I K ∗ Flying c d q s ∗ Owe c O)
      ⊢ iprop(((Idle c d q (s + 1) ∗ Q d (slot s) q fullShare.left (V I d s c) c ∗ Q d (slot (s + 1)) q fullShare (V I d s (src d c)) c ∗ Owe c O) -∗ Φ ⟨⟩)
        -∗ run c (sentOp d (slot s) (slot (s + 1)) q >>= fun _ => landedOp d (slot s) (slot (s + 1)) q) Φ) := by
  have hb : run c (sentOp d (slot s) (slot (s + 1)) q >>= fun _ => landedOp d (slot s) (slot (s + 1)) q) Φ
      = run c (sentOp d (slot s) (slot (s + 1)) q) (fun _ => run c (landedOp d (slot s) (slot (s + 1)) q) Φ) := wp_bind ..
  rw [hb]
  unfold Idle Flying
  iintro ⟨#HC, ⟨⟨HCr, HG, HS, HSW, HRW⟩, Hc⟩, HO⟩ Hk
  iapply (run_sent I K c d q s hs O (fun g u h => ⟨(hO g u h).1, Nat.lt_of_le_of_lt (Nat.zero_le _) (hO g u h).2.1, (hO g u h).2.2⟩)) $$ [HSW Hc HO]
  · isplitr; · iexact HC
    isplitl [HSW]; · iexact HSW
    isplitl [Hc]; · iexact Hc
    iexact HO
  iintro ⟨HSW, HQ, HO⟩
  iapply (run_landed I K c d q s hs O hO) $$ [HRW HO]
  · isplitr; · iexact HC
    isplitl [HRW]; · iexact HRW
    iexact HO
  iintro ⟨HRW, HQ', Hr, HO⟩
  iapply Hk
  isplitr [HQ HQ' HO]
  · isplitl [HCr]; · iexact HCr
    isplitl [HG]; · iexact HG
    isplitl [HS]; · iexact HS
    isplitl [HSW]; · iexact HSW
    isplitl [HRW]; · iexact HRW
    iexact Hr
  isplitl [HQ]; · iexact HQ
  isplitl [HQ']; · iexact HQ'
  iexact HO

end Cert.RingProof

end
-- ==== Proof.Local.lean ====
/-
# The operations on the device's own memory

Computing the device's own chunk, computing a partial product, adding half of it into a slot, and copying a
finished chunk to the result: what each needs, and what it leaves.
-/
module

public import proofs.«01_k».proof.Proof.Lane

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Operands F) (K : Dev nD × Option Own → ℕ)

/-! ## The operands and the partial products -/

/-- The device's operands, staged. -/
def Ins (c : Dev nD) : sProp 𝕄 :=
  iprop(((xM).view.loc (c : Thread nD τ) ↦[Finset.univ]{fullShare} I.x c) ∗ ((wM).view.loc (c : Thread nD τ) ↦[Finset.univ]{fullShare} I.w c))
/-- A partial-product buffer with the chunk. -/
def Part (d : Dir) (X : Chunk F) (c : Dev nD) : sProp 𝕄 :=
  (partM d).view.loc (c : Thread nD τ) ↦[Finset.univ]{fullShare} partOf d c X
/-- A partial-product buffer. -/
def PartAny (d : Dir) (c : Dev nD) : sProp 𝕄 :=
  iprop(∃ f : Buf (Elt F) ((partM d).view.loc (c : Thread nD τ)), (partM d).view.loc (c : Thread nD τ) ↦[Finset.univ]{fullShare} f)
theorem Part_any (d : Dir) (X : Chunk F) (c : Dev nD) : (Part d X c : sProp 𝕄) ⊢ PartAny d c := by
  unfold Part PartAny; iintro H; iexists _; iexact H

/-- The load of a quarter of a ring buffer that holds half a chunk. -/
theorem load_quarter (c : Dev nD) (d : Dir) (p q : Fin 2) (X : Chunk F) {hl : (commM d).view.LoadsAt (rectQ p q).toLoadRect}
    (k : Vec F S1x128x4096 .bf16 → Pg F PUnit) (Φ : PUnit → sProp 𝕄) :
    (Q d p q fullShare X c : sProp 𝕄) ⊢ iprop((Q d p q fullShare X c -∗ run c (k (slab q X)) Φ)
      -∗ run c (.op (.load (commM d) (rectQ p q).toLoadRect hl) k) Φ) := by
  rw [← load_comm d c p q X]
  unfold Q run
  exact wp_load 𝒱₀ (c : Thread nD τ) none Set.univ (m := commM d) (load_sub d p q)
/-- The load of one whose contents are not used. -/
theorem load_unused (c : Dev nD) (d : Dir) (p q : Fin 2) {hl : (commM d).view.LoadsAt (rectQ p q).toLoadRect}
    (k : Pg F PUnit) (Φ : PUnit → sProp 𝕄) :
    (Qany d p q c : sProp 𝕄) ⊢ iprop((Qany d p q c -∗ run c k Φ)
      -∗ run c (.op (.load (commM d) (rectQ p q).toLoadRect hl) fun _ => k) Φ) := by
  unfold Qany run
  iintro ⟨%f, Hf⟩ Hk
  iapply (wp_load 𝒱₀ (c : Thread nD τ) none Set.univ (m := commM d) (load_sub d p q)) $$ Hf; iintro Hf
  iapply Hk
  iexists f; iexact Hf
/-- The load of half a partial product. -/
theorem load_half (c : Dev nD) (d : Dir) (q : Fin 2) (X : Chunk F) {hl : (partM d).view.LoadsAt (rectH q).toLoadRect}
    (k : Vec F S128x4096 .bf16 → Pg F PUnit) (Φ : PUnit → sProp 𝕄) :
    (Part d X c : sProp 𝕄) ⊢ iprop((Part d X c -∗ run c (k (half q X)) Φ)
      -∗ run c (.op (.load (partM d) (rectH q).toLoadRect hl) k) Φ) := by
  rw [← load_part d c q X]
  unfold Part run
  exact wp_load 𝒱₀ (c : Thread nD τ) none Set.univ (m := partM d) (Finset.subset_univ _)
/-- The load of a partial product that is not used. -/
theorem load_product (c : Dev nD) (d : Dir) {hl : (partM d).view.LoadsAt rectPart.toLoadRect}
    (k : Pg F PUnit) (Φ : PUnit → sProp 𝕄) :
    (PartAny d c : sProp 𝕄) ⊢ iprop((PartAny d c -∗ run c k Φ)
      -∗ run c (.op (.load (partM d) rectPart.toLoadRect hl) fun _ => k) Φ) := by
  unfold PartAny run
  iintro ⟨%f, Hf⟩ Hk
  iapply (wp_load 𝒱₀ (c : Thread nD τ) none Set.univ (m := partM d) (Finset.subset_univ _)) $$ Hf; iintro Hf
  iapply Hk
  iexists f; iexact Hf

/-- The store of half a chunk into a quarter of a ring buffer. -/
theorem store_quarter (c : Dev nD) (d : Dir) (p q : Fin 2) (X : Chunk F) (w : Vec F S1x128x4096 .bf16) (hw : slab q X = w)
    {hx : ((commM d).access (rectQ p q)).Stores Finset.univ} {hm : (Finset.univ : Finset (rectQ p q).shape.Idx) = Finset.univ ∨ ∀ a, (rectQ p q).stride a = 1}
    (k : PUnit → Pg F PUnit) (Φ : PUnit → sProp 𝕄) :
    (Qany d p q c : sProp 𝕄) ⊢ iprop((Q d p q fullShare X c -∗ run c (k ⟨⟩) Φ)
      -∗ run c (.op (.store (commM d) (rectQ p q) w Finset.univ hx hm) k) Φ) := by
  unfold Qany run
  iintro ⟨%f, Hf⟩ Hk
  iapply (wp_store 𝒱₀ (c : Thread nD τ) none Set.univ (m := commM d) (r := rectQ p q) (Mk := Finset.univ) (store_sub d p q)) $$ Hf; iintro Hf
  iapply Hk
  iapply (Entails.of_eq (Q_stored d p q c X w hw f))
  iexact Hf

/-- The store of a whole partial product. -/
theorem store_product (c : Dev nD) (d : Dir) (X : Chunk F)
    {hx : ((partM d).access rectPart).Stores Finset.univ} {hm : (Finset.univ : Finset rectPart.shape.Idx) = Finset.univ ∨ ∀ a, rectPart.stride a = 1}
    (k : PUnit → Pg F PUnit) (Φ : PUnit → sProp 𝕄) :
    (PartAny d c : sProp 𝕄) ⊢ iprop((Part d X c -∗ run c (k ⟨⟩) Φ)
      -∗ run c (.op (.store (partM d) rectPart X Finset.univ hx hm) k) Φ) := by
  unfold PartAny run
  iintro ⟨%f, Hf⟩ Hk
  iapply (wp_store 𝒱₀ (c : Thread nD τ) none Set.univ (m := partM d) (r := rectPart) (Mk := Finset.univ) (Finset.subset_univ _)) $$ Hf; iintro Hf
  iapply Hk
  iapply (Entails.of_eq (show _ = (Part d X c : sProp 𝕄) from congrArg (fun g => ((partM d).view.loc (c : Thread nD τ) ↦[Finset.univ]{fullShare} g : sProp 𝕄))
    (store_part d c f X)))
  iexact Hf

theorem run_own (c : Dev nD) (d : Dir) (q : Fin 2) (Φ : PUnit → sProp 𝕄) :
    iprop(Ins I c ∗ Qany d 0 q c)
      ⊢ iprop(((Ins I c ∗ Q d 0 q fullShare (V I d 0 c) c) -∗ Φ ⟨⟩) -∗ run c (ownOp c d q) Φ) := by
  unfold Ins
  iintro ⟨⟨Hx, Hw⟩, Hf⟩ Hk
  unfold ownOp
  simp only [Prog.lift, Prog.bind_op, Prog.bind_ret]
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (load_unused c d 0 q) $$ Hf; iintro Hf
  iapply (store_quarter c d 0 q (V I d 0 c) (ownV I d c q) (by rw [V_zero]; exact slab_glue q _)) $$ Hf; iintro HQ
  unfold run
  rw [wp_ret]; imodintro
  iapply Hk
  isplitr [HQ]
  · isplitl [Hx] <;> iassumption
  iexact HQ

theorem run_part (c : Dev nD) (d : Dir) (s : Fin 15) (Φ : PUnit → sProp 𝕄) :
    iprop(Ins I c ∗ PartAny d c)
      ⊢ iprop(((Ins I c ∗ Part d (partV I d c s) c) -∗ Φ ⟨⟩) -∗ run c (partOp c d s) Φ) := by
  unfold Ins
  iintro ⟨⟨Hx, Hw⟩, Hf⟩ Hk
  unfold partOp
  simp only [Prog.lift, Prog.bind_op, Prog.bind_ret]
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (load_product c d) $$ Hf; iintro Hf
  iapply (store_product c d (partV I d c s)) $$ Hf; iintro HP
  unfold run
  rw [wp_ret]; imodintro
  iapply Hk
  isplitr [HP]
  · isplitl [Hx] <;> iassumption
  iexact HP

theorem run_add (c : Dev nD) (d : Dir) (q : Fin 2) (s : Fin 15) (Φ : PUnit → sProp 𝕄) :
    iprop(Q d (slot (s.val + 1)) q fullShare (V I d s.val (src d c)) c ∗ Part d (partV I d c s) c)
      ⊢ iprop(((Q d (slot (s.val + 1)) q fullShare (V I d (s.val + 1) c) c ∗ Part d (partV I d c s) c) -∗ Φ ⟨⟩)
        -∗ run c (addOp d (slot (s.val + 1)) q) Φ) := by
  iintro ⟨HQ, Hp⟩ Hk
  unfold addOp
  simp only [Prog.lift, Prog.bind_op, Prog.bind_ret]
  iapply (load_quarter c d (slot (s.val + 1)) q (V I d s.val (src d c))) $$ HQ; iintro HQ
  iapply (load_half c d q (partV I d c s)) $$ Hp; iintro Hp
  ihave HQ := (Q_any d (slot (s.val + 1)) q _ c) $$ HQ
  iapply (load_unused c d (slot (s.val + 1)) q) $$ HQ; iintro HQ
  iapply (store_quarter c d (slot (s.val + 1)) q (V I d (s.val + 1) c)
    (k0_pay10 (slab q (V I d s.val (src d c))) (half q (partV I d c s))) (by rw [V_add]; exact slab_glue q _)) $$ HQ; iintro HQ
  unfold run
  rw [wp_ret]; imodintro
  iapply Hk
  isplitl [HQ]; · iexact HQ
  iexact Hp

/-! ## Copying to the result -/

/-- `t` copies made. -/
def Copied (c : Dev nD) (d : Dir) (t : ℕ) : sProp 𝕄 :=
  iprop(At (copyC d c) t ∗ (bigSep (Finset.Ico t 16) fun r => iprop(dutyTok ER (copyC d c) r false ∗ Bany d r c))
    ∗ bigSep (Finset.range t) fun r => B I d r c)
/-- The copy of step `15 + t` under way. -/
def Copying (c : Dev nD) (d : Dir) (t : ℕ) : sProp 𝕄 :=
  iprop((At (copyC d c) t ∗ (bigSep (Finset.Ico (t + 1) 16) fun r => iprop(dutyTok ER (copyC d c) r false ∗ Bany d r c))
    ∗ bigSep (Finset.range t) fun r => B I d r c) ∗ cred (tallyAt (copyC d c) 0 NC))

theorem copies_next {n : ℕ} (h : n < 16) (Φ : ℕ → sProp 𝕄) :
    bigSep (Finset.Ico n 16) Φ = iprop(Φ n ∗ bigSep (Finset.Ico (n + 1) 16) Φ) := by
  rw [← Finset.insert_Ico_add_one_left_eq_Ico h]
  exact bigSep_insert (by rw [Finset.mem_Ico]; omega)
theorem copies_done (n : ℕ) (Φ : ℕ → sProp 𝕄) : iprop(Φ n ∗ bigSep (Finset.range n) Φ) = bigSep (Finset.range (n + 1)) Φ := by
  rw [Finset.range_add_one]
  exact (bigSep_insert Finset.notMem_range_self).symm

theorem copy_pay (c : Dev nD) (d : Dir) (t : ℕ) :
    (Rd I).payload (copyC d c) t false = iprop(B I d t c ∗ P d (slot (15 + t)) fullShare.right (V I d (15 + t) c) c) :=
  payload_k I (c, some (.copy d)) t false

theorem run_copy (c : Dev nD) (d : Dir) (t : ℕ) (ht : t < 16) (Φ : PUnit → sProp 𝕄) :
    iprop(Ctx I K ∗ Copied I c d t ∗ P d (slot (15 + t)) fullShare.right (V I d (15 + t) c) c)
      ⊢ iprop((Copying I c d t -∗ Φ ⟨⟩) -∗ run c (copyOp c d (slot (15 + t)) (num16 t)) Φ) := by
  have hP : (P d (slot (15 + t)) fullShare.right (V I d (15 + t) c) c : sProp 𝕄)
    = (viewP d (slot (15 + t))).view.loc (c : Thread nD τ) ↦[(viewP d (slot (15 + t))).view.set]{fullShare.right} bufOf d c (V I d (15 + t) c) := rfl
  unfold run Copied Copying
  iintro ⟨#HC, ⟨Ha, Ht, HB⟩, HP⟩ Hk
  ihave HP := (Entails.of_eq hP) $$ HP
  unfold copyOp
  simp only [Prog.lift]
  ihave Ht := (Entails.of_eq (copies_next ht _)) $$ Ht
  icases Ht with ⟨⟨Ht, Hd⟩, Hts⟩
  unfold Bany At
  icases Hd with ⟨%f, Hd⟩
  icases Ha with ⟨Ha, #Hr⟩
  have hm := mem_duties_k I (c, some (.copy d)) t (if_pos ht)
  iapply (Rounds.wp_copy_pointsTo 𝒱₀ ER (Rd I) (c : Thread nD τ) none (src := viewP d (slot (15 + t))) (dst := outB c d (num16 t))
      (κ := K (c, some (.copy d))) (r := t) (d := false) (q := fullShare.right) (fs := bufOf d c (V I d (15 + t) c)) (fd := f) hm 0 NC
      (NC_eq c d (num16 t) _) (amount_k I (c, some (.copy d)) t false)
      (by
        show _ ⊢ (Rd I).payload (copyC d c) t false
        rw [copy_pay, B_copied I d t ht, hP])) $$ [HP Hd Ht]
  · isplitr; · iapply (ctx_inv I K (c, some (.copy d))); iexact HC
    isplitl [HP]; · iexact HP
    isplitl [Hd]; · iexact Hd
    isplitl [Ht]; · iexact Ht
    iexact Hr
  iintro Hcr
  rw [wp_ret]; imodintro
  iapply Hk
  isplitr [Hcr]
  · isplitl [Ha]
    · isplitl [Ha]; · iexact Ha
      iexact Hr
    isplitl [Hts]; · iexact Hts
    iexact HB
  iexact Hcr

theorem NCW_eq (c : Dev nD) (d : Dir) (t : Fin 16) : (outB c d t).view.dmaCredit = NC := rfl
theorem run_copied (c : Dev nD) (d : Dir) (t : ℕ) (ht : t < 16) (O : CellTallies nD τ sig ℕ) (hO : Above 0 O) (Φ : PUnit → sProp 𝕄) :
    iprop(Ctx I K ∗ Copying I c d t ∗ Owe c O)
      ⊢ iprop(((Copied I c d (t + 1) ∗ P d (slot (15 + t)) fullShare.right (V I d (15 + t) c) c ∗ Owe c O) -∗ Φ ⟨⟩)
        -∗ run c (copiedOp c d (slot (15 + t)) (num16 t)) Φ) := by
  unfold run Copied Copying Owe
  iintro ⟨#HC, ⟨⟨Ha, Ht, HB⟩, Hc⟩, ⟨%W, HO⟩⟩ Hk
  unfold copiedOp
  simp only [Prog.lift]
  ihave Ha := at_pos $$ Ha
  have he : 0 + NC = (Rd I).expect (copyC d c) t :=
    (Nat.zero_add _).trans (expect_k I (c, some (.copy d)) t (if_pos ht)).symm
  iapply (Rounds.wp_wait_rest_token 𝒱₀ ER (Rd I) (c : Thread nD τ) none (κ := K (c, some (.copy d)))
      (wpE_waitDma2_eq 𝒱₀ (c : Thread nD τ) none Set.univ) (Set.mem_univ _) 0 (O := O) (W := W) (R := t) (m := 0) (T := ∅)
      (by rw [NCW_eq]; exact he)) $$ [HO Hc Ha]
  · isplitr; · iapply (ctx_inv I K (c, some (.copy d))); iexact HC
    isplitl [Hc]; · rw [NCW_eq]; iexact Hc
    isplitl [HO]; · iexact HO
    isplitr
    · iapply (ctx_wait I K c _ 0 (Nat.zero_lt_succ _) O hO); iexact HC
    iexact Ha
  iintro ⟨HO, Ha, Hr, Hpay⟩
  ihave Hp := (Entails.of_eq ((rest_k I (c, some (.copy d)) t (if_pos ht)).trans
    ((payload_k I (c, some (.copy d)) t false).symm.trans (copy_pay I c d t)))) $$ Hpay
  icases Hp with ⟨Hb, Hp⟩
  rw [wp_ret]; imodintro
  iapply Hk
  isplitr [Hp HO]
  · isplitl [Ha Hr]
    · iapply at_intro
      isplitl [Ha]; · iexact Ha
      iexact Hr
    isplitl [Ht]; · iexact Ht
    iapply (Entails.of_eq (copies_done t (fun r => B I d r c)))
    isplitl [Hb]; · iexact Hb
    iexact HB
  isplitl [Hp]; · iexact Hp
  iexists _; iexact HO

end Cert.RingProof

end
-- ==== Proof.Halves.lean ====
/-
# One half of a step, in both directions

The kernel works half by half: both directions of half 0, then both of half 1. This module puts the lanes'
operations together into the halves of the steps.
-/
module

public import proofs.«01_k».proof.Proof.Local

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Operands F) (K : Dev nD × Option Own → ℕ)

theorem run_bind (c : Dev nD) {α β : Type} (p : Pg F α) (k : α → Pg F β) (Φ : β → sProp 𝕄) :
    run c (p >>= k) Φ = run c p fun a => run c (k a) Φ := wp_bind ..

/-- Four operations in a row, two and two. -/
theorem run_pairs (c : Dev nD) (p₁ p₂ p₃ p₄ : Pg F PUnit) (Φ : PUnit → sProp 𝕄) :
    run c (p₁ >>= fun _ => p₂ >>= fun _ => p₃ >>= fun _ => p₄) Φ = run c (p₁ >>= fun _ => p₂) fun _ => run c (p₃ >>= fun _ => p₄) Φ := by
  rw [run_bind c p₁, run_bind c p₁]
  exact congrArg (run c p₁) (funext fun _ => run_bind ..)

/-! ## What is held of a half, both directions -/

def Idles (c : Dev nD) (q : Fin 2) (s : ℕ) : sProp 𝕄 := iprop(Idle c .fw q s ∗ Idle c .bw q s)
def Granteds (c : Dev nD) (q : Fin 2) (s : ℕ) : sProp 𝕄 := iprop(Granted c .fw q s ∗ Granted c .bw q s)
def Fly (c : Dev nD) (q : Fin 2) (s : ℕ) : sProp 𝕄 := iprop(Flying c .fw q s ∗ Flying c .bw q s)
/-- The half of the slots that step `s` sends from, with the chunks it sends. -/
def Now (c : Dev nD) (q : Fin 2) (π : PosShare TreeShare) (s : ℕ) : sProp 𝕄 :=
  iprop(Q .fw (slot s) q π (V I .fw s c) c ∗ Q .bw (slot s) q π (V I .bw s c) c)
/-- The half of the slots that step `s` lands in, as landed. -/
def Got (c : Dev nD) (q : Fin 2) (s : ℕ) : sProp 𝕄 :=
  iprop(Q .fw (slot (s + 1)) q fullShare (V I .fw s (src .fw c)) c ∗ Q .bw (slot (s + 1)) q fullShare (V I .bw s (src .bw c)) c)
/-- The half of the slots that step `s` lands in, free. -/
def Free (c : Dev nD) (q : Fin 2) (s : ℕ) : sProp 𝕄 :=
  iprop(Qany .fw (slot (s + 1)) q c ∗ Qany .bw (slot (s + 1)) q c)
def Parts (c : Dev nD) (s : Fin 15) : sProp 𝕄 := iprop(Part .fw (partV I .fw c s) c ∗ Part .bw (partV I .bw c s) c)

theorem now_shares (c : Dev nD) (q : Fin 2) (s : ℕ) :
    Now I c q fullShare s ⊣⊢ iprop(Now I c q fullShare.left s ∗ Now I c q fullShare.right s) := by
  unfold Now
  constructor
  · iintro ⟨A, B⟩
    ihave A := (Q_shares .fw (slot s) q (V I .fw s c) c).1 $$ A
    ihave B := (Q_shares .bw (slot s) q (V I .bw s c) c).1 $$ B
    icases A with ⟨A1, A2⟩
    icases B with ⟨B1, B2⟩
    isplitl [A1 B1]
    · isplitl [A1] <;> iassumption
    · isplitl [A2] <;> iassumption
  · iintro ⟨⟨A1, B1⟩, A2, B2⟩
    isplitl [A1 A2]
    · iapply (Q_shares .fw (slot s) q (V I .fw s c) c).2
      isplitl [A1] <;> iassumption
    · iapply (Q_shares .bw (slot s) q (V I .bw s c) c).2
      isplitl [B1] <;> iassumption

/-- Once its transfer is read, the slot of step `s` is free for step `s + 1` to land in. -/
theorem now_free (c : Dev nD) (q : Fin 2) (s : ℕ) :
    iprop(Now I c q fullShare.left s ∗ Now I c q fullShare.right s) ⊢ Free c q (s + 1) := by
  refine (now_shares I c q s).2.trans ?_
  unfold Now Free
  rw [show s + 1 + 1 = s + 2 from rfl, slot_two]
  exact BI.sep_mono (Q_any .fw (slot s) q (V I .fw s c) c) (Q_any .bw (slot s) q (V I .bw s c) c)

/-- From step 15 on, what landed is what is passed on. -/
theorem got_now (c : Dev nD) (q : Fin 2) (s : ℕ) (hs : 15 ≤ s) : Got I c q s ⊢ Now I c q fullShare (s + 1) := by
  unfold Got Now
  rw [V_pass I .fw c hs, V_pass I .bw c hs]

/-! ## The counts -/

/-- One more on both lanes of a half. -/
def bump (q : Fin 2) (n : Lane → ℕ) : Lane → ℕ := fun ℓ => if ℓ.2 = q then n ℓ + 1 else n ℓ
theorem bump_eq (q : Fin 2) (n : Lane → ℕ) {s : ℕ} (hn : ∀ d, n (d, q) = s) :
    bump q n = Function.update (Function.update n (.fw, q) (s + 1)) (.bw, q) (s + 1) := by
  funext ⟨d, q'⟩
  unfold bump
  by_cases h : q' = q
  · subst h
    cases d
    · rw [Function.update_of_ne (by simp), Function.update_self, if_pos rfl, hn]
    · rw [Function.update_self, if_pos rfl, hn]
  · rw [if_neg h, Function.update_of_ne (by simp [h]), Function.update_of_ne (by simp [h])]
theorem bump_both (k : ℕ) : bump 1 (bump 0 fun _ => k) = fun _ => k + 1 := by
  funext ⟨d, q⟩
  unfold bump
  fin_cases q <;> simp

/-- Everything still owed lies above level `l`. -/
def Below (l : ℕ) (n σ : Lane → ℕ) : Prop := (∀ ℓ, l < lvC (n ℓ) ℓ.2) ∧ ∀ ℓ, l < lvR (σ ℓ) ℓ.2
theorem Below.above {l : ℕ} {n σ : Lane → ℕ} (h : Below l n σ) (c : Dev nD) : Above l (owed c n σ) := above_owed c n σ h.1 h.2
theorem Below.mono {l : ℕ} {n σ σ' : Lane → ℕ} (h : Below l n σ) (hσ : ∀ ℓ, σ ℓ ≤ σ' ℓ) : Below l n σ' :=
  ⟨h.1, fun ℓ => lt_of_lt_of_le (h.2 ℓ) (by have := hσ ℓ; unfold lvR; omega)⟩

/-! ## The halves -/

theorem run_grants (c : Dev nD) (q : Fin 2) (s : ℕ) (hs : s < 30) (n σ : Lane → ℕ) (hn : ∀ d, n (d, q) = s) (Φ : PUnit → sProp 𝕄) :
    iprop(Ctx I K ∗ Idles c q s ∗ Free c q s ∗ Owe c (owed c n σ))
      ⊢ iprop(((Granteds c q s ∗ Owe c (owed c (bump q n) σ)) -∗ Φ ⟨⟩) -∗ run c (grantsOp c q) Φ) := by
  unfold grantsOp
  rw [run_bind]
  unfold Idles Free Granteds
  iintro ⟨#HC, ⟨A, B⟩, ⟨C, D⟩, HO⟩ Hk
  iapply (run_grant I K c .fw q s hs n σ (Function.update n (.fw, q) (s + 1)) (hn .fw) rfl) $$ [A C HO]
  · isplitr; · iexact HC
    isplitl [A]; · iexact A
    isplitl [C]; · iexact C
    iexact HO
  iintro ⟨A, HO⟩
  iapply (run_grant I K c .bw q s hs (Function.update n (.fw, q) (s + 1)) σ (bump q n)
    (by rw [Function.update_of_ne (by simp)]; exact hn .bw) (bump_eq q n hn)) $$ [B D HO]
  · isplitr; · iexact HC
    isplitl [B]; · iexact B
    isplitl [D]; · iexact D
    iexact HO
  iintro ⟨B, HO⟩
  iapply Hk
  isplitr [HO]
  · isplitl [A] <;> iassumption
  iexact HO

theorem run_issues (c : Dev nD) (q : Fin 2) (s : ℕ) (hs : s < 30) (n σ : Lane → ℕ) (hσ : ∀ d, σ (d, q) = s)
    (hb : Below (lvC s q) n σ) (Φ : PUnit → sProp 𝕄) :
    iprop(Ctx I K ∗ Granteds c q s ∗ Now I c q fullShare s ∗ Owe c (owed c n σ))
      ⊢ iprop(((Fly c q s ∗ Now I c q fullShare.right s ∗ Owe c (owed c n (bump q σ))) -∗ Φ ⟨⟩) -∗ run c (issueOp c s q) Φ) := by
  have e : run c (issueOp c s q) Φ = run c (creditOp .fw q >>= fun _ => sendOp c .fw (slot s) (slot (s + 1)) q)
      fun _ => run c (creditOp .bw q >>= fun _ => sendOp c .bw (slot s) (slot (s + 1)) q) Φ := by
    exact run_pairs c _ _ _ _ Φ
  rw [e]
  unfold Granteds Fly Now
  iintro ⟨#HC, ⟨A, B⟩, ⟨C, D⟩, HO⟩ Hk
  iapply (run_issue I K c .fw q s hs n σ (Function.update σ (.fw, q) (s + 1)) (hσ .fw) rfl (hb.above c)) $$ [A C HO]
  · isplitr; · iexact HC
    isplitl [A]; · iexact A
    isplitl [C]; · iexact C
    iexact HO
  iintro ⟨A, C, HO⟩
  iapply (run_issue I K c .bw q s hs n (Function.update σ (.fw, q) (s + 1)) (bump q σ)
    (by rw [Function.update_of_ne (by simp)]; exact hσ .bw) (bump_eq q σ hσ)
    ((hb.mono (σ' := Function.update σ (.fw, q) (s + 1)) (fun ℓ => by
      by_cases h : ℓ = (.fw, q)
      · subst h; rw [Function.update_self, hσ]; exact Nat.le_succ s
      · rw [Function.update_of_ne h])).above c)) $$ [B D HO]
  · isplitr; · iexact HC
    isplitl [B]; · iexact B
    isplitl [D]; · iexact D
    iexact HO
  iintro ⟨B, D, HO⟩
  iapply Hk
  isplitl [A B]
  · isplitl [A] <;> iassumption
  isplitl [C D]
  · isplitl [C] <;> iassumption
  iexact HO

theorem run_awaits (c : Dev nD) (q : Fin 2) (s : ℕ) (hs : s < 30) (n σ : Lane → ℕ) (hb : Below (lvR s q) n σ) (Φ : PUnit → sProp 𝕄) :
    iprop(Ctx I K ∗ Fly c q s ∗ Owe c (owed c n σ))
      ⊢ iprop(((Idles c q (s + 1) ∗ Now I c q fullShare.left s ∗ Got I c q s ∗ Owe c (owed c n σ)) -∗ Φ ⟨⟩) -∗ run c (awaitOp s q) Φ) := by
  have e : run c (awaitOp s q) Φ = run c (sentOp .fw (slot s) (slot (s + 1)) q >>= fun _ => landedOp .fw (slot s) (slot (s + 1)) q)
      fun _ => run c (sentOp .bw (slot s) (slot (s + 1)) q >>= fun _ => landedOp .bw (slot s) (slot (s + 1)) q) Φ := by
    exact run_pairs c _ _ _ _ Φ
  rw [e]
  unfold Idles Fly Now Got
  iintro ⟨#HC, ⟨A, B⟩, HO⟩ Hk
  iapply (run_await I K c .fw q s hs (owed c n σ) (hb.above c)) $$ [A HO]
  · isplitr; · iexact HC
    isplitl [A]; · iexact A
    iexact HO
  iintro ⟨A, C, E, HO⟩
  iapply (run_await I K c .bw q s hs (owed c n σ) (hb.above c)) $$ [B HO]
  · isplitr; · iexact HC
    isplitl [B]; · iexact B
    iexact HO
  iintro ⟨B, D, G, HO⟩
  iapply Hk
  isplitl [A B]
  · isplitl [A] <;> iassumption
  isplitl [C D]
  · isplitl [C] <;> iassumption
  isplitl [E G]
  · isplitl [E] <;> iassumption
  iexact HO

theorem run_adds (c : Dev nD) (q : Fin 2) (s : Fin 15) (Φ : PUnit → sProp 𝕄) :
    iprop(Got I c q s.val ∗ Parts I c s)
      ⊢ iprop(((Now I c q fullShare (s.val + 1) ∗ Parts I c s) -∗ Φ ⟨⟩) -∗ run c (addsOp s.val q) Φ) := by
  unfold addsOp
  rw [run_bind]
  unfold Got Parts Now
  iintro ⟨⟨A, B⟩, C, D⟩ Hk
  iapply (run_add I c .fw q s) $$ [A C]
  · isplitl [A] <;> iassumption
  iintro ⟨A, C⟩
  iapply (run_add I c .bw q s) $$ [B D]
  · isplitl [B] <;> iassumption
  iintro ⟨B, D⟩
  iapply Hk
  isplitl [A B]
  · isplitl [A] <;> iassumption
  isplitl [C] <;> iassumption

theorem run_addHalf (c : Dev nD) (q : Fin 2) (s : Fin 15) (n : Lane → ℕ) (hn : ∀ d, n (d, q) = s.val + 1)
    (hb : Below (lvR s.val q) n n) (hb' : Below (lvC (s.val + 1) q) (bump q n) n) (Φ : PUnit → sProp 𝕄) :
    iprop(Ctx I K ∗ Fly c q s.val ∗ Now I c q fullShare.right s.val ∗ Parts I c s ∗ Owe c (owed c n n))
      ⊢ iprop(((Fly c q (s.val + 1) ∗ Now I c q fullShare.right (s.val + 1) ∗ Parts I c s ∗ Owe c (owed c (bump q n) (bump q n))) -∗ Φ ⟨⟩)
        -∗ run c (addHalf c s.val q) Φ) := by
  have hs := s.isLt
  unfold addHalf
  rw [run_bind]
  iintro ⟨#HC, HF, HR, HP, HO⟩ Hk
  iapply (run_awaits I K c q s.val (by omega) n n hb) $$ [HF HO]
  · isplitr; · iexact HC
    isplitl [HF]; · iexact HF
    iexact HO
  iintro ⟨HI, HL, HG, HO⟩
  rw [run_bind]
  iapply (run_grants I K c q (s.val + 1) (by omega) n n hn) $$ [HI HL HR HO]
  · isplitr; · iexact HC
    isplitl [HI]; · iexact HI
    isplitl [HL HR]
    · iapply (now_free I c q s.val)
      isplitl [HL] <;> iassumption
    iexact HO
  iintro ⟨HI, HO⟩
  rw [run_bind]
  iapply (run_adds I c q s) $$ [HG HP]
  · isplitl [HG] <;> iassumption
  iintro ⟨HN, HP⟩
  iapply (run_issues I K c q (s.val + 1) (by omega) (bump q n) n hn hb') $$ [HI HN HO]
  · isplitr; · iexact HC
    isplitl [HI]; · iexact HI
    isplitl [HN]; · iexact HN
    iexact HO
  iintro ⟨HF, HN, HO⟩
  iapply Hk
  isplitl [HF]; · iexact HF
  isplitl [HN]; · iexact HN
  isplitl [HP]; · iexact HP
  iexact HO

theorem run_passHalf (c : Dev nD) (q : Fin 2) (s : ℕ) (hs : 15 ≤ s) (hs' : s + 1 < 30) (n : Lane → ℕ) (hn : ∀ d, n (d, q) = s + 1)
    (hb' : Below (lvC (s + 1) q) (bump q n) n) (Φ : PUnit → sProp 𝕄) :
    iprop(Ctx I K ∗ Idles c q (s + 1) ∗ Now I c q fullShare.left s ∗ Got I c q s ∗ Now I c q fullShare.right s ∗ Owe c (owed c n n))
      ⊢ iprop(((Fly c q (s + 1) ∗ Now I c q fullShare.right (s + 1) ∗ Owe c (owed c (bump q n) (bump q n))) -∗ Φ ⟨⟩)
        -∗ run c (passHalf c s q) Φ) := by
  unfold passHalf
  rw [run_bind]
  iintro ⟨#HC, HI, HL, HG, HR, HO⟩ Hk
  iapply (run_grants I K c q (s + 1) hs' n n hn) $$ [HI HL HR HO]
  · isplitr; · iexact HC
    isplitl [HI]; · iexact HI
    isplitl [HL HR]
    · iapply (now_free I c q s)
      isplitl [HL] <;> iassumption
    iexact HO
  iintro ⟨HI, HO⟩
  iapply (run_issues I K c q (s + 1) hs' (bump q n) n hn hb') $$ [HI HG HO]
  · isplitr; · iexact HC
    isplitl [HI]; · iexact HI
    isplitl [HG]; · iapply (got_now I c q s hs); iexact HG
    iexact HO
  iintro ⟨HF, HN, HO⟩
  iapply Hk
  isplitl [HF]; · iexact HF
  isplitl [HN]; · iexact HN
  iexact HO

/-! ## The copies of a step -/

def Copieds (c : Dev nD) (t : ℕ) : sProp 𝕄 := iprop(Copied I c .fw t ∗ Copied I c .bw t)
def Copyings (c : Dev nD) (t : ℕ) : sProp 𝕄 := iprop(Copying I c .fw t ∗ Copying I c .bw t)

theorem run_copies (c : Dev nD) (t : ℕ) (ht : t < 16) (Φ : PUnit → sProp 𝕄) :
    iprop(Ctx I K ∗ Copieds I c t ∗ Now I c 0 fullShare.right (15 + t) ∗ Now I c 1 fullShare.right (15 + t))
      ⊢ iprop((Copyings I c t -∗ Φ ⟨⟩) -∗ run c (copiesOp c (slot (15 + t)) (num16 t)) Φ) := by
  unfold copiesOp
  rw [run_bind]
  unfold Copieds Copyings Now
  iintro ⟨#HC, ⟨A, B⟩, ⟨C, D⟩, E, G⟩ Hk
  iapply (run_copy I K c .fw t ht) $$ [A C E]
  · isplitr; · iexact HC
    isplitl [A]; · iexact A
    iapply (P_halves .fw (slot (15 + t)) fullShare.right (V I .fw (15 + t) c) c).2
    isplitl [C] <;> iassumption
  iintro A
  iapply (run_copy I K c .bw t ht) $$ [B D G]
  · isplitr; · iexact HC
    isplitl [B]; · iexact B
    iapply (P_halves .bw (slot (15 + t)) fullShare.right (V I .bw (15 + t) c) c).2
    isplitl [D] <;> iassumption
  iintro B
  iapply Hk
  isplitl [A] <;> iassumption

theorem run_copieds (c : Dev nD) (t : ℕ) (ht : t < 16) (n σ : Lane → ℕ) (hb : Below 0 n σ) (Φ : PUnit → sProp 𝕄) :
    iprop(Ctx I K ∗ Copyings I c t ∗ Owe c (owed c n σ))
      ⊢ iprop(((Copieds I c (t + 1) ∗ Now I c 0 fullShare.right (15 + t) ∗ Now I c 1 fullShare.right (15 + t) ∗ Owe c (owed c n σ)) -∗ Φ ⟨⟩)
        -∗ run c (copiedsOp c (slot (15 + t)) (num16 t)) Φ) := by
  unfold copiedsOp
  rw [run_bind]
  unfold Copieds Copyings Now
  iintro ⟨#HC, ⟨A, B⟩, HO⟩ Hk
  iapply (run_copied I K c .fw t ht (owed c n σ) (hb.above c)) $$ [A HO]
  · isplitr; · iexact HC
    isplitl [A]; · iexact A
    iexact HO
  iintro ⟨A, C, HO⟩
  iapply (run_copied I K c .bw t ht (owed c n σ) (hb.above c)) $$ [B HO]
  · isplitr; · iexact HC
    isplitl [B]; · iexact B
    iexact HO
  iintro ⟨B, D, HO⟩
  ihave C := (P_halves .fw (slot (15 + t)) fullShare.right (V I .fw (15 + t) c) c).1 $$ C
  ihave D := (P_halves .bw (slot (15 + t)) fullShare.right (V I .bw (15 + t) c) c).1 $$ D
  icases C with ⟨C0, C1⟩
  icases D with ⟨D0, D1⟩
  iapply Hk
  isplitl [A B]
  · isplitl [A] <;> iassumption
  isplitl [C0 D0]
  · isplitl [C0] <;> iassumption
  isplitl [C1 D1]
  · isplitl [C1] <;> iassumption
  iexact HO

end Cert.RingProof

end
-- ==== Proof.Steps.lean ====
/-
# The steps, and the whole run of a device

The adding steps, the passing steps, the start with its handshake and the last step; and by induction over the
steps the run of one device, from what it holds at launch to what it holds when it is done.
-/
module

public import proofs.«01_k».proof.Proof.Halves

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Operands F) (K : Dev nD × Option Own → ℕ)

/-- All lanes have the counts `k`. -/
abbrev cnt (k : ℕ) : Lane → ℕ := fun _ => k

/-- Step `s` under way in both halves. -/
def Going (c : Dev nD) (s : ℕ) : sProp 𝕄 :=
  iprop((Fly c 0 s ∗ Now I c 0 fullShare.right s) ∗ (Fly c 1 s ∗ Now I c 1 fullShare.right s) ∗ Owe c (owed c (cnt (s + 1)) (cnt (s + 1))))
/-- Both partial-product buffers. -/
def PartsAny (c : Dev nD) : sProp 𝕄 := iprop(PartAny .fw c ∗ PartAny .bw c)

theorem bump_self (k : ℕ) (d : Dir) : bump 0 (cnt k) (d, 1) = k := if_neg Fin.zero_ne_one.symm

theorem below_await (s : ℕ) : Below (lvR s 0) (cnt (s + 1)) (cnt (s + 1)) := by
  constructor <;> rintro ⟨d, q⟩ <;> fin_cases q <;> simp [lvC, lvR, cnt] <;> omega
theorem below_await' (s : ℕ) : Below (lvR s 1) (bump 0 (cnt (s + 1))) (bump 0 (cnt (s + 1))) := by
  constructor <;> rintro ⟨d, q⟩ <;> fin_cases q <;> simp [lvC, lvR, bump, cnt] <;> omega
theorem below_issue (s : ℕ) : Below (lvC (s + 1) 0) (bump 0 (cnt (s + 1))) (cnt (s + 1)) := by
  constructor <;> rintro ⟨d, q⟩ <;> fin_cases q <;> simp [lvC, lvR, bump, cnt] <;> omega
theorem below_issue' (s : ℕ) : Below (lvC (s + 1) 1) (bump 1 (bump 0 (cnt (s + 1)))) (bump 0 (cnt (s + 1))) := by
  constructor <;> rintro ⟨d, q⟩ <;> fin_cases q <;> simp [lvC, lvR, bump, cnt] <;> omega
theorem below_last (s : ℕ) : Below (lvR s 1) (cnt (s + 1)) (cnt (s + 1)) := by
  constructor <;> rintro ⟨d, q⟩ <;> fin_cases q <;> simp [lvC, lvR, cnt] <;> omega
theorem below_zero (n σ : Lane → ℕ) : Below 0 n σ := by
  constructor <;> rintro ⟨d, q⟩ <;> simp [lvC, lvR, cnt]
theorem below_start : Below (lvC 0 0) (cnt 1) (cnt 0) := by
  constructor <;> rintro ⟨d, q⟩ <;> fin_cases q <;> simp [lvC, lvR, cnt]
theorem below_start' : Below (lvC 0 1) (cnt 1) (bump 0 (cnt 0)) := by
  constructor <;> rintro ⟨d, q⟩ <;> fin_cases q <;> simp [lvC, lvR, bump, cnt]

/-! ## Adding -/

theorem run_addStep (c : Dev nD) (s : Fin 15) (Φ : PUnit → sProp 𝕄) :
    iprop(Ctx I K ∗ Ins I c ∗ PartsAny c ∗ Going I c s.val)
      ⊢ iprop(((Ins I c ∗ PartsAny c ∗ Going I c (s.val + 1)) -∗ Φ ⟨⟩) -∗ run c (addStep c s) Φ) := by
  unfold addStep PartsAny Going
  iintro ⟨#HC, HI, ⟨A, B⟩, ⟨F0, N0⟩, ⟨F1, N1⟩, HO⟩ Hk
  rw [run_bind]
  iapply (run_part I c .fw s) $$ [HI A]
  · isplitl [HI] <;> iassumption
  iintro ⟨HI, A⟩
  rw [run_bind]
  iapply (run_part I c .bw s) $$ [HI B]
  · isplitl [HI] <;> iassumption
  iintro ⟨HI, B⟩
  rw [run_bind]
  iapply (run_addHalf I K c 0 s (cnt (s.val + 1)) (fun _ => rfl) (below_await s.val) (below_issue s.val)) $$ [F0 N0 A B HO]
  · isplitr; · iexact HC
    isplitl [F0]; · iexact F0
    isplitl [N0]; · iexact N0
    isplitl [A B]
    · unfold Parts; isplitl [A] <;> iassumption
    iexact HO
  iintro ⟨F0, N0, HP, HO⟩
  iapply (run_addHalf I K c 1 s (bump 0 (cnt (s.val + 1))) (bump_self _) (below_await' s.val) (below_issue' s.val)) $$ [F1 N1 HP HO]
  · isplitr; · iexact HC
    isplitl [F1]; · iexact F1
    isplitl [N1]; · iexact N1
    isplitl [HP]; · iexact HP
    iexact HO
  iintro ⟨F1, N1, HP, HO⟩
  rw [bump_both]
  unfold Parts
  icases HP with ⟨A, B⟩
  iapply Hk
  isplitl [HI]; · iexact HI
  isplitl [A B]
  · isplitl [A]
    · iapply (Part_any .fw (partV I .fw c s) c); iexact A
    · iapply (Part_any .bw (partV I .bw c s) c); iexact B
  isplitl [F0 N0]
  · isplitl [F0] <;> iassumption
  isplitl [F1 N1]
  · isplitl [F1] <;> iassumption
  iexact HO

theorem run_addSteps (c : Dev nD) (k : ℕ) : ∀ (s : ℕ) (h : s + k ≤ 15) (Φ : PUnit → sProp 𝕄),
    iprop(Ctx I K ∗ Ins I c ∗ PartsAny c ∗ Going I c s)
      ⊢ iprop(((Ins I c ∗ PartsAny c ∗ Going I c (s + k)) -∗ Φ ⟨⟩) -∗ run c (addSteps c k s h) Φ) := by
  induction k with
  | zero =>
    intro s h Φ
    unfold addSteps
    iintro ⟨#HC, HI, HP, HG⟩ Hk
    simp only [Prog.pure_eq_ret]
    unfold run
    rw [wp_ret]; imodintro
    iapply Hk
    isplitl [HI]; · iexact HI
    isplitl [HP]; · iexact HP
    iexact HG
  | succ k ih =>
    intro s h Φ
    unfold addSteps
    rw [run_bind, show s + (k + 1) = s + 1 + k by omega]
    iintro ⟨#HC, HI, HP, HG⟩ Hk
    iapply (run_addStep I K c ⟨s, _⟩) $$ [HI HP HG]
    · isplitr; · iexact HC
      isplitl [HI]; · iexact HI
      isplitl [HP]; · iexact HP
      iexact HG
    iintro ⟨HI, HP, HG⟩
    iapply (ih (s + 1) _) $$ [HI HP HG]
    · isplitr; · iexact HC
      isplitl [HI]; · iexact HI
      isplitl [HP]; · iexact HP
      iexact HG
    iexact Hk

/-! ## Passing -/

theorem run_passStep (c : Dev nD) (t : Fin 14) (Φ : PUnit → sProp 𝕄) :
    iprop(Ctx I K ∗ Copieds I c t.val ∗ Going I c (15 + t.val))
      ⊢ iprop(((Copieds I c (t.val + 1) ∗ Going I c (15 + (t.val + 1))) -∗ Φ ⟨⟩) -∗ run c (passStep c t) Φ) := by
  have ht : t.val < 14 := t.isLt
  have hu : (⟨t.val, by omega⟩ : Fin 16) = num16 t.val := Fin.ext (Nat.mod_eq_of_lt (by omega)).symm
  unfold passStep Going
  rw [hu, ← Nat.add_assoc]
  generalize hs : 15 + t.val = s
  iintro ⟨#HC, HB, ⟨F0, N0⟩, ⟨F1, N1⟩, HO⟩ Hk
  rw [run_bind, ← hs]
  iapply (run_copies I K c t.val (by omega)) $$ [HB N0 N1]
  · isplitr; · iexact HC
    isplitl [HB]; · iexact HB
    isplitl [N0] <;> iassumption
  iintro HB
  rw [run_bind]
  iapply (run_awaits I K c 0 (15 + t.val) (by omega) (cnt (15 + t.val + 1)) (cnt (15 + t.val + 1)) (below_await _)) $$ [F0 HO]
  · isplitr; · iexact HC
    isplitl [F0]; · iexact F0
    iexact HO
  iintro ⟨I0, L0, G0, HO⟩
  rw [run_bind]
  iapply (run_copieds I K c t.val (by omega) (cnt (15 + t.val + 1)) (cnt (15 + t.val + 1)) (below_zero _ _)) $$ [HB HO]
  · isplitr; · iexact HC
    isplitl [HB]; · iexact HB
    iexact HO
  iintro ⟨HB, N0, N1, HO⟩
  rw [run_bind]
  iapply (run_passHalf I K c 0 (15 + t.val) (by omega) (by omega) (cnt (15 + t.val + 1)) (fun _ => rfl) (below_issue _)) $$ [I0 L0 G0 N0 HO]
  · isplitr; · iexact HC
    isplitl [I0]; · iexact I0
    isplitl [L0]; · iexact L0
    isplitl [G0]; · iexact G0
    isplitl [N0]; · iexact N0
    iexact HO
  iintro ⟨F0, N0, HO⟩
  rw [run_bind]
  iapply (run_awaits I K c 1 (15 + t.val) (by omega) (bump 0 (cnt (15 + t.val + 1))) (bump 0 (cnt (15 + t.val + 1))) (below_await' _)) $$ [F1 HO]
  · isplitr; · iexact HC
    isplitl [F1]; · iexact F1
    iexact HO
  iintro ⟨I1, L1, G1, HO⟩
  iapply (run_passHalf I K c 1 (15 + t.val) (by omega) (by omega) (bump 0 (cnt (15 + t.val + 1))) (bump_self _) (below_issue' _)) $$ [I1 L1 G1 N1 HO]
  · isplitr; · iexact HC
    isplitl [I1]; · iexact I1
    isplitl [L1]; · iexact L1
    isplitl [G1]; · iexact G1
    isplitl [N1]; · iexact N1
    iexact HO
  iintro ⟨F1, N1, HO⟩
  rw [bump_both]
  iapply Hk
  isplitl [HB]; · iexact HB
  isplitl [F0 N0]
  · isplitl [F0] <;> iassumption
  isplitl [F1 N1]
  · isplitl [F1] <;> iassumption
  iexact HO

theorem run_passSteps (c : Dev nD) (k : ℕ) : ∀ (t : ℕ) (h : t + k ≤ 14) (Φ : PUnit → sProp 𝕄),
    iprop(Ctx I K ∗ Copieds I c t ∗ Going I c (15 + t))
      ⊢ iprop(((Copieds I c (t + k) ∗ Going I c (15 + (t + k))) -∗ Φ ⟨⟩) -∗ run c (passSteps c k t h) Φ) := by
  induction k with
  | zero =>
    intro t h Φ
    unfold passSteps
    iintro ⟨#HC, HB, HG⟩ Hk
    simp only [Prog.pure_eq_ret]
    unfold run
    rw [wp_ret]; imodintro
    iapply Hk
    isplitl [HB]; · iexact HB
    iexact HG
  | succ k ih =>
    intro t h Φ
    unfold passSteps
    rw [run_bind, show t + (k + 1) = t + 1 + k by omega]
    iintro ⟨#HC, HB, HG⟩ Hk
    iapply (run_passStep I K c ⟨t, _⟩) $$ [HB HG]
    · isplitr; · iexact HC
      isplitl [HB]; · iexact HB
      iexact HG
    iintro ⟨HB, HG⟩
    iapply (ih (t + 1) _) $$ [HB HG]
    · isplitr; · iexact HC
      isplitl [HB]; · iexact HB
      iexact HG
    iexact Hk

/-! ## The last step -/

/-- Both slots back, whatever they hold. -/
theorem free_comm (c : Dev nD) :
    iprop((Free c 0 30 ∗ Free c 1 30) ∗ (Free c 0 31 ∗ Free c 1 31)) ⊢ (iprop(commAny .fw c ∗ commAny .bw c) : sProp 𝕄) := by
  have h (q : Fin 2) : (Free c q 30 : sProp 𝕄) = iprop(Qany .fw 1 q c ∗ Qany .bw 1 q c) := rfl
  have h' (q : Fin 2) : (Free c q 31 : sProp 𝕄) = iprop(Qany .fw 0 q c ∗ Qany .bw 0 q c) := rfl
  rw [h, h, h', h']
  iintro ⟨⟨⟨A0, B0⟩, A1, B1⟩, ⟨C0, D0⟩, C1, D1⟩
  isplitl [A0 A1 C0 C1]
  · iapply (comm_join .fw c)
    isplitl [C0 C1]
    · isplitl [C0] <;> iassumption
    · isplitl [A0] <;> iassumption
  · iapply (comm_join .bw c)
    isplitl [D0 D1]
    · isplitl [D0] <;> iassumption
    · isplitl [B0] <;> iassumption

theorem run_lastStep (c : Dev nD) (Φ : PUnit → sProp 𝕄) :
    iprop(Ctx I K ∗ Copieds I c 14 ∗ Going I c 29)
      ⊢ iprop(((Copieds I c 16 ∗ (Idles c 0 30 ∗ Idles c 1 30) ∗ (commAny .fw c ∗ commAny .bw c) ∗ Owe c 0) -∗ Φ ⟨⟩) -∗ run c (lastStep c) Φ) := by
  have e : (lastStep c : Pg F PUnit) = (copiesOp c (slot (15 + 14)) (num16 14) >>= fun _ => awaitOp 29 0 >>= fun _ =>
    copiedsOp c (slot (15 + 14)) (num16 14) >>= fun _ => awaitOp 29 1 >>= fun _ =>
    copiesOp c (slot (15 + 15)) (num16 15) >>= fun _ => copiedsOp c (slot (15 + 15)) (num16 15)) := rfl
  rw [e, run_bind]
  unfold Going
  iintro ⟨#HC, HB, ⟨F0, N0⟩, ⟨F1, N1⟩, HO⟩ Hk
  iapply (run_copies I K c 14 (by omega)) $$ [HB N0 N1]
  · isplitr; · iexact HC
    isplitl [HB]; · iexact HB
    isplitl [N0] <;> iassumption
  iintro HB
  rw [run_bind]
  iapply (run_awaits I K c 0 29 (by omega) (cnt 30) (cnt 30) (below_await 29)) $$ [F0 HO]
  · isplitr; · iexact HC
    isplitl [F0]; · iexact F0
    iexact HO
  iintro ⟨I0, L0, G0, HO⟩
  rw [run_bind]
  iapply (run_copieds I K c 14 (by omega) (cnt 30) (cnt 30) (below_zero _ _)) $$ [HB HO]
  · isplitr; · iexact HC
    isplitl [HB]; · iexact HB
    iexact HO
  iintro ⟨HB, N0, N1, HO⟩
  rw [run_bind]
  iapply (run_awaits I K c 1 29 (by omega) (cnt 30) (cnt 30) (below_last 29)) $$ [F1 HO]
  · isplitr; · iexact HC
    isplitl [F1]; · iexact F1
    iexact HO
  iintro ⟨I1, L1, G1, HO⟩
  ihave G0 := ((got_now I c 0 29 (by omega)).trans (now_shares I c 0 30).1) $$ G0
  ihave G1 := ((got_now I c 1 29 (by omega)).trans (now_shares I c 1 30).1) $$ G1
  icases G0 with ⟨M0, R0⟩
  icases G1 with ⟨M1, R1⟩
  rw [run_bind]
  iapply (run_copies I K c 15 (by omega)) $$ [HB R0 R1]
  · isplitr; · iexact HC
    isplitl [HB]; · iexact HB
    isplitl [R0] <;> iassumption
  iintro HB
  iapply (run_copieds I K c 15 (by omega) (cnt 30) (cnt 30) (below_zero _ _)) $$ [HB HO]
  · isplitr; · iexact HC
    isplitl [HB]; · iexact HB
    iexact HO
  iintro ⟨HB, R0, R1, HO⟩
  rw [owed_end c (cnt 30) (cnt 30) (fun _ => le_rfl) (fun _ => le_rfl)]
  iapply Hk
  isplitl [HB]; · iexact HB
  isplitl [I0 I1]
  · isplitl [I0] <;> iassumption
  isplitr [HO]
  · iapply (free_comm c)
    isplitl [L0 N0 L1 N1]
    · isplitl [L0 N0]
      · iapply (now_free I c 0 29); isplitl [L0] <;> iassumption
      · iapply (now_free I c 1 29); isplitl [L1] <;> iassumption
    · isplitl [M0 R0]
      · iapply (now_free I c 0 30); isplitl [M0] <;> iassumption
      · iapply (now_free I c 1 30); isplitl [M1] <;> iassumption
  iexact HO

/-! ## The start -/

/-- What a device holds for the handshake: its own cell's units to wait for, and one unit to give to each neighbour. -/
def Shake (c : Dev nD) : sProp 𝕄 :=
  iprop((atPos ER (barC c) 0 ∅ 0 ∗ cred (tallyAt (barC c) 1 2))
    ∗ (dutyTok ER (barC (lft c)) 0 true ∗ reached ER (barC (lft c)) 0)
    ∗ (dutyTok ER (barC (rgt c)) 0 false ∗ reached ER (barC (rgt c)) 0))

theorem bar_pay (c : Dev nD) (b : Bool) : (Rd I).payload (barC c) 0 b = iprop(emp) := payload_k I (c, none) 0 b

theorem run_shake (c : Dev nD) (k : Pg F PUnit) (Φ : PUnit → sProp 𝕄) :
    iprop(Ctx I K ∗ Shake c ∗ Owe c (O₀ c))
      ⊢ iprop(((atPos ER (barC c) 1 ∅ 0 ∗ Owe c (owed c (cnt 0) (cnt 0))) -∗ run c k Φ)
        -∗ run c (semSignalWord (lft c) barS 1#32 >>= fun _ => semSignalWord (rgt c) barS 1#32 >>= fun _ => semWaitWord barS 2#32 >>= fun _ => k) Φ) := by
  have hm (c' : Dev nD) (b : Bool) : b ∈ (Rd I).duties (barC c') 0 := by
    have h : (Rd I).duties (barC c') 0 = dutiesOf none 0 := duties_k I (c', none) 0
    rw [h]; exact Finset.mem_univ b
  unfold Shake Owe run
  iintro ⟨#HC, ⟨⟨Ha, Hc⟩, ⟨Tl, #Rl⟩, Tr, #Rr⟩, %W, HO⟩ Hk
  simp only [semSignalWord, semWaitWord, Prog.lift, Prog.bind_op, Prog.bind_ret]
  iapply (Rounds.wp_signal 𝒱₀ ER (Rd I) (c : Thread nD τ) none (dst := (lft c : Thread nD τ)) (κ := K (lft c, none))
      (r := 0) (d := true) (hm (lft c) true) ((amount_k I (lft c, none) 0 true).trans rfl) 1 (O₁ c) rfl) $$ [HO Tl]
  · isplitr; · iapply (ctx_inv I K (lft c, none)); iexact HC
    isplitl [HO]; · iexact HO
    isplitl [Tl]; · iexact Tl
    isplitr; · iapply (Entails.of_eq (bar_pay I (lft c) true).symm); iempintro
    iexact Rl
  iintro HO
  iapply (Rounds.wp_signal 𝒱₀ ER (Rd I) (c : Thread nD τ) none (dst := (rgt c : Thread nD τ)) (κ := K (rgt c, none))
      (r := 0) (d := false) (hm (rgt c) false) ((amount_k I (rgt c, none) 0 false).trans rfl) 1 (owed c (cnt 0) (cnt 0)) rfl) $$ [HO Tr]
  · isplitr; · iapply (ctx_inv I K (rgt c, none)); iexact HC
    isplitl [HO]; · iexact HO
    isplitl [Tr]; · iexact Tr
    isplitr; · iapply (Entails.of_eq (bar_pay I (rgt c) false).symm); iempintro
    iexact Rr
  iintro HO
  iapply (Rounds.wp_wait_rest_token 𝒱₀ ER (Rd I) (c : Thread nD τ) none (κ := K (c, none))
      (wpE_semWait_eq 𝒱₀ (c : Thread nD τ) none Set.univ) (Set.mem_univ _) 1 (O := owed c (cnt 0) (cnt 0)) (W := W) (R := 0) (m := 0) (T := ∅)
      ((Nat.zero_add _).trans (expect_bar I c).symm)) $$ [HO Hc Ha]
  · isplitr; · iapply (ctx_inv I K (c, none)); iexact HC
    isplitl [Hc]; · iexact Hc
    isplitl [HO]; · iexact HO
    isplitr
    · iapply (ctx_wait I K c _ 1 (by omega) (owed c (cnt 0) (cnt 0)) (above_start c 1 (by omega))); iexact HC
    iexact Ha
  iintro ⟨HO, Ha, -, -⟩
  iapply Hk
  isplitl [Ha]; · iexact Ha
  iexists _; iexact HO

theorem own_now (c : Dev nD) (q : Fin 2) :
    iprop(Q .fw 0 q fullShare (V I .fw 0 c) c ∗ Q .bw 0 q fullShare (V I .bw 0 c) c) ⊢ Now I c q fullShare 0 := .rfl
theorem comm_free (c : Dev nD) :
    (iprop(commAny .fw c ∗ commAny .bw c) : sProp 𝕄)
      ⊢ iprop(((Qany .fw 0 0 c ∗ Qany .bw 0 0 c) ∗ (Qany .fw 0 1 c ∗ Qany .bw 0 1 c)) ∗ (Free c 0 0 ∗ Free c 1 0)) := by
  have h (q : Fin 2) : (Free c q 0 : sProp 𝕄) = iprop(Qany .fw 1 q c ∗ Qany .bw 1 q c) := rfl
  rw [h, h]
  iintro ⟨A, B⟩
  ihave A := (comm_split .fw c) $$ A
  ihave B := (comm_split .bw c) $$ B
  icases A with ⟨⟨A0, A1⟩, A2, A3⟩
  icases B with ⟨⟨B0, B1⟩, B2, B3⟩
  isplitl [A0 A1 B0 B1]
  · isplitl [A0 B0]
    · isplitl [A0] <;> iassumption
    · isplitl [A1] <;> iassumption
  · isplitl [A2 B2]
    · isplitl [A2] <;> iassumption
    · isplitl [A3] <;> iassumption

theorem run_firstStep (c : Dev nD) (Φ : PUnit → sProp 𝕄) :
    iprop(Ctx I K ∗ Shake c ∗ Ins I c ∗ (commAny .fw c ∗ commAny .bw c) ∗ (Idles c 0 0 ∗ Idles c 1 0) ∗ Owe c (O₀ c))
      ⊢ iprop(((atPos ER (barC c) 1 ∅ 0 ∗ Ins I c ∗ Going I c 0) -∗ Φ ⟨⟩) -∗ run c (firstStep c) Φ) := by
  unfold firstStep Going
  iintro ⟨#HC, HS, HI, HQ, ⟨I0, I1⟩, HO⟩ Hk
  iapply (run_shake I K c) $$ [HS HO]
  · isplitr; · iexact HC
    isplitl [HS]; · iexact HS
    iexact HO
  iintro ⟨Ha, HO⟩
  ihave HQ := (comm_free c) $$ HQ
  icases HQ with ⟨⟨⟨A0, B0⟩, A1, B1⟩, E0, E1⟩
  rw [run_bind]
  iapply (run_grants I K c 0 0 (by omega) (cnt 0) (cnt 0) (fun _ => rfl)) $$ [I0 E0 HO]
  · isplitr; · iexact HC
    isplitl [I0]; · iexact I0
    isplitl [E0]; · iexact E0
    iexact HO
  iintro ⟨I0, HO⟩
  rw [run_bind]
  iapply (run_grants I K c 1 0 (by omega) (bump 0 (cnt 0)) (cnt 0) (bump_self 0)) $$ [I1 E1 HO]
  · isplitr; · iexact HC
    isplitl [I1]; · iexact I1
    isplitl [E1]; · iexact E1
    iexact HO
  iintro ⟨I1, HO⟩
  rw [run_bind]
  iapply (run_own I c .fw 0) $$ [HI A0]
  · isplitl [HI] <;> iassumption
  iintro ⟨HI, A0⟩
  rw [run_bind]
  iapply (run_own I c .bw 0) $$ [HI B0]
  · isplitl [HI] <;> iassumption
  iintro ⟨HI, B0⟩
  rw [run_bind, bump_both]
  iapply (run_issues I K c 0 0 (by omega) (cnt 1) (cnt 0) (fun _ => rfl) below_start) $$ [I0 A0 B0 HO]
  · isplitr; · iexact HC
    isplitl [I0]; · iexact I0
    isplitl [A0 B0]
    · iapply (own_now I c 0); isplitl [A0] <;> iassumption
    iexact HO
  iintro ⟨F0, N0, HO⟩
  rw [run_bind]
  iapply (run_own I c .fw 1) $$ [HI A1]
  · isplitl [HI] <;> iassumption
  iintro ⟨HI, A1⟩
  rw [run_bind]
  iapply (run_own I c .bw 1) $$ [HI B1]
  · isplitl [HI] <;> iassumption
  iintro ⟨HI, B1⟩
  iapply (run_issues I K c 1 0 (by omega) (cnt 1) (bump 0 (cnt 0)) (bump_self 0) below_start') $$ [I1 A1 B1 HO]
  · isplitr; · iexact HC
    isplitl [I1]; · iexact I1
    isplitl [A1 B1]
    · iapply (own_now I c 1); isplitl [A1] <;> iassumption
    iexact HO
  iintro ⟨F1, N1, HO⟩
  rw [bump_both]
  iapply Hk
  isplitl [Ha]; · iexact Ha
  isplitl [HI]; · iexact HI
  isplitl [F0 N0]
  · isplitl [F0] <;> iassumption
  isplitl [F1 N1]
  · isplitl [F1] <;> iassumption
  iexact HO

/-! ## The run -/

/-- The run of one device. -/
theorem run_device (c : Dev nD) (Φ : PUnit → sProp 𝕄) :
    iprop(Ctx I K ∗ Shake c ∗ (Ins I c ∗ PartsAny c ∗ (commAny .fw c ∗ commAny .bw c)) ∗ (Idles c 0 0 ∗ Idles c 1 0) ∗ Copieds I c 0 ∗ Owe c (O₀ c))
      ⊢ iprop(((atPos ER (barC c) 1 ∅ 0 ∗ (Ins I c ∗ PartsAny c ∗ (commAny .fw c ∗ commAny .bw c)) ∗ (Idles c 0 30 ∗ Idles c 1 30) ∗ Copieds I c 16 ∗ Owe c 0) -∗ Φ ⟨⟩)
        -∗ run c (deviceRun c) Φ) := by
  unfold deviceRun
  iintro ⟨#HC, HS, ⟨HI, HP, HQ⟩, HL, HB, HO⟩ Hk
  rw [run_bind]
  iapply (run_firstStep I K c) $$ [HS HI HQ HL HO]
  · isplitr; · iexact HC
    isplitl [HS]; · iexact HS
    isplitl [HI]; · iexact HI
    isplitl [HQ]; · iexact HQ
    isplitl [HL]; · iexact HL
    iexact HO
  iintro ⟨Ha, HI, HG⟩
  rw [run_bind]
  iapply (run_addSteps I K c 15 0 _) $$ [HI HP HG]
  · isplitr; · iexact HC
    isplitl [HI]; · iexact HI
    isplitl [HP]; · iexact HP
    iexact HG
  iintro ⟨HI, HP, HG⟩
  rw [run_bind]
  iapply (run_passSteps I K c 14 0 _) $$ [HB HG]
  · isplitr; · iexact HC
    isplitl [HB]; · iexact HB
    iexact HG
  iintro ⟨HB, HG⟩
  iapply (run_lastStep I K c) $$ [HB HG]
  · isplitr; · iexact HC
    isplitl [HB]; · iexact HB
    iexact HG
  iintro ⟨HB, HL, HQ, HO⟩
  iapply Hk
  isplitl [Ha]; · iexact Ha
  isplitl [HI HP HQ]
  · isplitl [HI]; · iexact HI
    isplitl [HP]; · iexact HP
    iexact HQ
  isplitl [HL]; · iexact HL
  isplitl [HB]; · iexact HB
  iexact HO

end Cert.RingProof

end
-- ==== Proof.Result.lean ====
/-
# The result array in blocks

The 32 blocks that a device's copies write (16 in each direction) are disjoint and make up the whole result:
the `t`-th copy of a direction writes the rows of block `och d t c`, and these run over all blocks.
-/
module

public import proofs.«01_k».proof.Proof.Steps

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem och_onto : ∀ (d : Dir) (c k : Dev nD), ∃ t : Fin 16, och d t.val c = k := by decide +kernel
theorem och_inj : ∀ (d : Dir) (c : Dev nD) (t t' : Fin 16), och d t.val c = och d t'.val c → t = t' := by decide +kernel

theorem mem_rectB (c : Dev nD) (d : Dir) (t : Fin 16) (i : S4096x8192.Idx) :
    i ∈ (rectB c d t).set ↔ (i 0).val / 256 = (och d t.val c).val ∧ colDir (i 1).val = d := by
  have key (off : Fin 2 → Nat) (inb : ∀ a, off a + S256x4096.size a ≤ S4096x8192.size a)
      (ho : off = ![256 * (och d t.val c).val, colW d]) :
      i ∈ (Rect.unit (s := S4096x8192) off S256x4096.size inb).set ↔ (i 0).val / 256 = (och d t.val c).val ∧ colDir (i 1).val = d := by
    subst ho
    rw [Rect.mem_set_unit]
    have h1 : (i 1).val < 8192 := (i 1).isLt
    have hcol : colDir (i 1).val = d ↔ colW d ≤ (i 1).val ∧ (i 1).val < colW d + 4096 := by
      unfold colDir
      cases d
      · show _ ↔ 0 ≤ (i 1).val ∧ (i 1).val < 0 + 4096
        split
        · exact ⟨fun _ => by omega, fun _ => rfl⟩
        · exact ⟨fun h => (by cases h), fun h => by omega⟩
      · show _ ↔ 4096 ≤ (i 1).val ∧ (i 1).val < 4096 + 4096
        split
        · exact ⟨fun h => (by cases h), fun h => by omega⟩
        · exact ⟨fun _ => by omega, fun _ => rfl⟩
    rw [hcol]
    constructor
    · intro h
      have a0 : 256 * (och d t.val c).val ≤ (i 0).val ∧ (i 0).val < 256 * (och d t.val c).val + 256 := h 0
      have a1 : colW d ≤ (i 1).val ∧ (i 1).val < colW d + 4096 := h 1
      exact ⟨by omega, a1⟩
    · rintro ⟨e0, e1⟩ a
      match a with
      | ⟨0, _⟩ => show 256 * (och d t.val c).val ≤ (i 0).val ∧ (i 0).val < 256 * (och d t.val c).val + 256; omega
      | ⟨1, _⟩ => exact e1
  exact key _ _ (offB_eq c d t)

theorem mem_outB (c : Dev nD) (d : Dir) (t : Fin 16) (i : S4096x8192.Idx) :
    i ∈ (outB c d t).view.set ↔ (i 0).val / 256 = (och d t.val c).val ∧ colDir (i 1).val = d := by
  have h : (outB c d t).view.set = (rectB c d t).set := by
    show (outM.view.slice (rectB c d t)).set = _
    rw [View.set_slice]
    ext j
    rw [Finset.mem_map]
    exact ⟨fun ⟨k, hk, e⟩ => e ▸ hk, fun hj => ⟨j, hj, rfl⟩⟩
  rw [h]; exact mem_rectB c d t i

/-- The blocks of one direction. -/
abbrev dirSet (c : Dev nD) (d : Dir) : Finset S4096x8192.Idx := (Finset.range 16).biUnion fun t => (outB c d (num16 t)).view.set

theorem mem_dirSet (c : Dev nD) (d : Dir) (i : S4096x8192.Idx) : i ∈ dirSet c d ↔ colDir (i 1).val = d := by
  rw [Finset.mem_biUnion]
  constructor
  · rintro ⟨t, -, h⟩; exact ((mem_outB c d _ i).mp h).2
  · intro h
    have h0 : (i 0).val < 4096 := (i 0).isLt
    obtain ⟨t, ht⟩ := och_onto d c (⟨(i 0).val / 256, by show _ < 16; omega⟩ : Dev nD)
    have e : num16 t.val = t := Fin.ext (Nat.mod_eq_of_lt t.isLt)
    refine ⟨t.val, Finset.mem_range.mpr t.isLt, (mem_outB c d _ i).mpr ⟨?_, h⟩⟩
    rw [e, ht]

theorem dirs_cover (c : Dev nD) : (Finset.univ : Finset S4096x8192.Idx) = dirSet c .fw ∪ dirSet c .bw := by
  ext i
  rw [Finset.mem_union, mem_dirSet, mem_dirSet]
  refine ⟨fun _ => ?_, fun _ => Finset.mem_univ i⟩
  match colDir (i 1).val with
  | .fw => exact Or.inl rfl
  | .bw => exact Or.inr rfl
theorem dirs_disjoint (c : Dev nD) : Disjoint (dirSet c .fw) (dirSet c .bw) := by
  rw [Finset.disjoint_left]
  intro i h h'
  rw [mem_dirSet] at h h'
  rw [h] at h'; cases h'
theorem blocks_disjoint (c : Dev nD) (d : Dir) : ∀ t ∈ Finset.range 16, ∀ t' ∈ Finset.range 16, t ≠ t' →
    Disjoint (outB c d (num16 t)).view.set (outB c d (num16 t')).view.set := by
  intro t ht t' ht' hne
  rw [Finset.disjoint_left]
  intro i h h'
  have e := ((mem_outB c d _ i).mp h).1
  have e' := ((mem_outB c d _ i).mp h').1
  have e2 := och_inj d c _ _ (Fin.ext (e.symm.trans e'))
  have a := Finset.mem_range.mp ht
  have a' := Finset.mem_range.mp ht'
  have := congrArg Fin.val e2
  simp only [num16] at this
  omega

/-- The whole result array is its blocks. -/
theorem out_blocks (c : Dev nD) (f : Buf (Elt F) ((c : Thread nD τ).loc main_v1)) :
    ((c : Thread nD τ).loc main_v1 ↦{fullShare} f : sProp 𝕄)
      = iprop((bigSep (Finset.range 16) fun t => (outB c .fw (num16 t)).view.loc (c : Thread nD τ) ↦[(outB c .fw (num16 t)).view.set]{fullShare} f)
          ∗ bigSep (Finset.range 16) fun t => (outB c .bw (num16 t)).view.loc (c : Thread nD τ) ↦[(outB c .bw (num16 t)).view.set]{fullShare} f) := by
  have h : ((c : Thread nD τ).loc main_v1 ↦{fullShare} f : sProp 𝕄)
      = ((c : Thread nD τ).loc main_v1 ↦[dirSet c .fw ∪ dirSet c .bw]{fullShare} f) := by rw [← dirs_cover c]
  have hd (d : Dir) : ((c : Thread nD τ).loc main_v1 ↦[dirSet c d]{fullShare} f : sProp 𝕄)
      = bigSep (Finset.range 16) fun t => (c : Thread nD τ).loc main_v1 ↦[(outB c d (num16 t)).view.set]{fullShare} f :=
    pointsTo_biUnion (ℓ := (c : Thread nD τ).loc main_v1) _ _ (blocks_disjoint c d)
  rw [h]
  have hu : ((c : Thread nD τ).loc main_v1 ↦[dirSet c .fw ∪ dirSet c .bw]{fullShare} f : sProp 𝕄) ⊣⊢ _ := pointsTo_union (dirs_disjoint c)
  rw [BI.Entails.antisymm hu.1 hu.2, hd, hd]

/-- At the start: the result array, block by block, with whatever it holds. -/
theorem out_split (c : Dev nD) (f : Buf (Elt F) ((c : Thread nD τ).loc main_v1)) :
    ((c : Thread nD τ).loc main_v1 ↦{fullShare} f : sProp 𝕄)
      ⊢ iprop((bigSep (Finset.Ico 0 16) fun t => Bany (F := F) .fw t c) ∗ bigSep (Finset.Ico 0 16) fun t => Bany (F := F) .bw t c) := by
  have h (d : Dir) (t : ℕ) : ((outB c d (num16 t)).view.loc (c : Thread nD τ) ↦[(outB c d (num16 t)).view.set]{fullShare} f : sProp 𝕄)
      ⊢ Bany (F := F) d t c := by
    unfold Bany
    iintro H; iexists f; iexact H
  rw [out_blocks, ← Finset.range_eq_Ico]
  exact BI.sep_mono (bigSep_mono fun t _ => h .fw t) (bigSep_mono fun t _ => h .bw t)

/-- At the end: the written blocks are the result. -/
theorem out_join (I : Operands F) (c : Dev nD) :
    iprop((bigSep (Finset.range 16) fun t => B I .fw t c) ∗ bigSep (Finset.range 16) fun t => B I .bw t c)
      ⊢ ((c : Thread nD τ).loc main_v1 ↦{fullShare} outV I : sProp 𝕄) := by
  rw [out_blocks]
  exact .rfl

end Cert.RingProof

end
-- ==== Proof.Deal.lean ====
/-
# Cells and tokens dealt to the devices

Each device owns 23 cells (the handshake's, and per direction and half one credit cell, two sending cells and
two landing cells, and per direction the copies' cell). At the start it also gets the token of every duty that it
will pay, whichever device's cell the duty belongs to. Here the cells are arranged by lane, the tokens are listed,
and the two together are shown to be what the device's program starts from; at the end every cell is past its last
round, so its counter is zero.
-/
module

public import proofs.«01_k».proof.Proof.Result

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over small types -/

theorem bigSep_dir (Φ : Dir → sProp 𝕄) : bigSep Finset.univ Φ = iprop(Φ .fw ∗ Φ .bw) :=
  bigSep_univ_eq_bigSepL [Dir.fw, Dir.bw] (by decide) (by decide) Φ
theorem bigSep_two (Φ : Fin 2 → sProp 𝕄) : bigSep Finset.univ Φ = iprop(Φ 0 ∗ Φ 1) :=
  bigSep_univ_eq_bigSepL [0, 1] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_bool (Φ : Bool → sProp 𝕄) : bigSep Finset.univ Φ = iprop(Φ true ∗ Φ false) :=
  bigSep_univ_eq_bigSepL [true, false] (by decide) (by decide) Φ
theorem bigSep_one (Φ : Unit → sProp 𝕄) : bigSep Finset.univ Φ = Φ () := bigSep_univ_of_subsingleton ()
theorem bigSep_fin_Ico {n : ℕ} (Φ : ℕ → sProp 𝕄) : bigSep (Finset.univ : Finset (Fin n)) (fun r => Φ r.val) = bigSep (Finset.Ico 0 n) Φ := by
  have h : (Finset.univ : Finset (Fin n)).map Fin.valEmbedding = Finset.Ico 0 n := by
    ext i
    rw [Finset.mem_map, Finset.mem_Ico]
    exact ⟨fun ⟨r, _, e⟩ => ⟨Nat.zero_le _, e ▸ r.isLt⟩, fun h => ⟨⟨i, h.2⟩, Finset.mem_univ _, rfl⟩⟩
  rw [← h, bigSep_map]
  rfl

/-- What holds of each member given a persistent fact holds of the family. -/
theorem bigSep_given {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

/-! ## The cells of a device, by lane -/

abbrev CellIx : Type := Unit ⊕ ((Fin 2 × Dir × Fin 5) ⊕ Dir)
def cellAt : CellIx → Option Own
  | .inl _ => none
  | .inr (.inl (q, d, 0)) => some (.credit d q)
  | .inr (.inl (q, d, 1)) => some (.send d 0 q)
  | .inr (.inl (q, d, 2)) => some (.send d 1 q)
  | .inr (.inl (q, d, 3)) => some (.recv d 1 q)
  | .inr (.inl (q, d, 4)) => some (.recv d 0 q)
  | .inr (.inr d) => some (.copy d)
theorem cellAt_surjective : ∀ k : Option Own, ∃ a : CellIx, cellAt a = k := by decide +kernel
theorem cellAt_bijective : Function.Bijective cellAt := (Fintype.bijective_iff_surjective_and_card cellAt).mpr ⟨cellAt_surjective, by decide +kernel⟩

/-- A lane's cells. -/
def lane (Φ : Option Own → sProp 𝕄) (d : Dir) (q : Fin 2) : sProp 𝕄 :=
  iprop(Φ (some (.credit d q)) ∗ Φ (some (.send d 0 q)) ∗ Φ (some (.send d 1 q)) ∗ Φ (some (.recv d 1 q)) ∗ Φ (some (.recv d 0 q)))

theorem cells_split (Φ : Option Own → sProp 𝕄) : bigSep Finset.univ Φ
    = iprop(Φ none ∗ (((lane Φ .fw 0 ∗ lane Φ .bw 0) ∗ (lane Φ .fw 1 ∗ lane Φ .bw 1)) ∗ (Φ (some (.copy .fw)) ∗ Φ (some (.copy .bw))))) := by
  rw [bigSep_univ_equiv (Equiv.ofBijective cellAt cellAt_bijective) Φ, bigSep_univ_sum, bigSep_univ_sum, bigSep_one, bigSep_dir,
    bigSep_univ_prod, bigSep_two, bigSep_univ_prod, bigSep_univ_prod, bigSep_dir, bigSep_dir, bigSep_five, bigSep_five, bigSep_five, bigSep_five]
  rfl

theorem cells_own (Φ : Option Own → sProp 𝕄) : bigSep Finset.univ Φ = iprop(Φ none ∗ bigSep Finset.univ fun o : Own => Φ (some o)) := by
  rw [bigSep_univ_equiv (Equiv.optionEquivSumPUnit Own).symm Φ, bigSep_univ_sum, bigSep_one]
  exact BI.Entails.antisymm sep_comm sep_comm

/-! ## The tokens a device pays with -/

abbrev LaneR : Type := Fin 2 × Dir × Fin 30
abbrev Need : Type := Bool ⊕ (LaneR ⊕ (LaneR ⊕ (LaneR ⊕ (Dir × Fin 16))))

/-- Whose cell device `c` pays. -/
def who : Need → Dev nD → Dev nD
  | .inl b, c => if b then lft c else rgt c
  | .inr (.inl (_, d, _)), c => src d c
  | .inr (.inr (.inl _)), c => c
  | .inr (.inr (.inr (.inl (_, d, _)))), c => tgt d c
  | .inr (.inr (.inr (.inr _))), c => c
/-- Which cell, which round, which duty. -/
def key : Need → Option Own × ℕ × Bool
  | .inl b => (none, 0, b)
  | .inr (.inl (q, d, r)) => (some (.credit d q), r.val, false)
  | .inr (.inr (.inl (q, d, r))) => (some (.send d (slot r.val) q), r.val / 2, false)
  | .inr (.inr (.inr (.inl (q, d, r)))) => (some (.recv d (slot (r.val + 1)) q), r.val / 2, false)
  | .inr (.inr (.inr (.inr (d, r)))) => (some (.copy d), r.val, false)

theorem who_injective (n : Need) : Function.Injective (who n) := by
  match n with
  | .inl true => exact fun a b h => (ring .bw).injective h
  | .inl false => exact fun a b h => (ring .fw).injective h
  | .inr (.inl (_, d, _)) => exact fun a b h => (ring d).symm.injective h
  | .inr (.inr (.inl _)) => exact fun a b h => h
  | .inr (.inr (.inr (.inl (_, d, _)))) => exact fun a b h => (ring d).injective h
  | .inr (.inr (.inr (.inr _))) => exact fun a b h => h

theorem key_injective : Function.Injective key := by
  rintro (b | ⟨q, d, r⟩ | ⟨q, d, r⟩ | ⟨q, d, r⟩ | ⟨d, r⟩) (b' | ⟨q', d', r'⟩ | ⟨q', d', r'⟩ | ⟨q', d', r'⟩ | ⟨d', r'⟩) h <;>
    simp only [key, Prod.mk.injEq, Option.some.injEq, Own.credit.injEq, Own.send.injEq, Own.recv.injEq, Own.copy.injEq, reduceCtorEq,
      Fin.mk.injEq, _root_.false_and, _root_.and_false, _root_.true_and, _root_.and_true] at h
  · rw [h]
  · obtain ⟨⟨rfl, rfl⟩, h⟩ := h
    rw [Fin.ext h]
  · obtain ⟨⟨rfl, h2, rfl⟩, h⟩ := h
    rw [Fin.ext (a := r) (b := r') (by omega)]
  · obtain ⟨⟨rfl, h2, rfl⟩, h⟩ := h
    rw [Fin.ext (a := r) (b := r') (by omega)]
  · obtain ⟨rfl, h⟩ := h
    rw [Fin.ext h]

/-- The token device `c` needs for `n`. -/
def tokOf (cn : Dev nD × Need) : GSem nD τ sig × ℕ × Bool := (kcell (who cn.2 cn.1, (key cn.2).1), (key cn.2).2.1, (key cn.2).2.2)
theorem tokOf_injective : Function.Injective tokOf := by
  rintro ⟨c, n⟩ ⟨c', n'⟩ h
  have h1 := kcell_injective (congrArg (fun x : GSem nD τ sig × ℕ × Bool => x.1) h)
  have h2 : (key n).2 = (key n').2 := congrArg (fun x : GSem nD τ sig × ℕ × Bool => x.2) h
  have h3 : n = n' := key_injective (Prod.ext (congrArg Prod.snd h1) h2)
  subst h3
  exact congrArg (fun x => (x, n)) (who_injective n (congrArg Prod.fst h1))

/-- All tokens of device `c`. -/
def payToks (c : Dev nD) : sProp 𝕄 :=
  bigSep Finset.univ fun n : Need => dutyTok ER (tokOf (c, n)).1 (tokOf (c, n)).2.1 (tokOf (c, n)).2.2

def lanesOf (Φ : Dir → Fin 2 → sProp 𝕄) : sProp 𝕄 := iprop((Φ .fw 0 ∗ Φ .bw 0) ∗ (Φ .fw 1 ∗ Φ .bw 1))

theorem bigSep_laneR (Φ : LaneR → sProp 𝕄) (Ψ : Dir → Fin 2 → ℕ → sProp 𝕄) (h : ∀ q d r, Φ (q, d, r) = Ψ d q r.val) :
    bigSep Finset.univ Φ = lanesOf fun d q => bigSep (Finset.Ico 0 30) (Ψ d q) := by
  unfold lanesOf
  rw [bigSep_univ_prod, bigSep_two, bigSep_univ_prod, bigSep_univ_prod, bigSep_dir, bigSep_dir]
  simp only [h, bigSep_fin_Ico]

theorem payToks_split (c : Dev nD) : (payToks c : sProp 𝕄)
    = iprop((dutyTok ER (barC (lft c)) 0 true ∗ dutyTok ER (barC (rgt c)) 0 false)
      ∗ lanesOf (fun d q => bigSep (Finset.Ico 0 30) fun r => dutyTok ER (creditC d q (src d c)) r false)
      ∗ lanesOf (fun d q => bigSep (Finset.Ico 0 30) fun r => dutyTok ER (sendC d (slot r) q c) (r / 2) false)
      ∗ lanesOf (fun d q => bigSep (Finset.Ico 0 30) fun r => dutyTok ER (recvC d (slot (r + 1)) q (tgt d c)) (r / 2) false)
      ∗ ((bigSep (Finset.Ico 0 16) fun r => dutyTok ER (copyC .fw c) r false) ∗ bigSep (Finset.Ico 0 16) fun r => dutyTok ER (copyC .bw c) r false)) := by
  unfold payToks
  rw [bigSep_univ_sum, bigSep_univ_sum, bigSep_univ_sum, bigSep_univ_sum, bigSep_bool,
    bigSep_laneR _ (fun d q r => dutyTok ER (creditC d q (src d c)) r false) (fun _ _ _ => rfl),
    bigSep_laneR _ (fun d q r => dutyTok ER (sendC d (slot r) q c) (r / 2) false) (fun _ _ _ => rfl),
    bigSep_laneR _ (fun d q r => dutyTok ER (recvC d (slot (r + 1)) q (tgt d c)) (r / 2) false) (fun _ _ _ => rfl),
    bigSep_univ_prod, bigSep_dir, ← bigSep_fin_Ico, ← bigSep_fin_Ico]
  rfl

/-! ## What a device starts from -/

variable (I : Operands F) (K : Dev nD × Option Own → ℕ)

/-- What everyone knows of the cells: their invariants, and that they are at round 0. -/
def records : sProp 𝕄 :=
  iprop((bigSep Finset.univ fun ck : Dev nD × Option Own => cellInv ER (Rd I) (K ck) (kcell ck))
    ∗ bigSep Finset.univ fun ck : Dev nD × Option Own => reached ER (kcell ck) 0)
instance records_persistent : BI.Persistent (records I K) := by unfold records; infer_instance

theorem reached_elim (ck : Dev nD × Option Own) :
    (bigSep Finset.univ fun ck : Dev nD × Option Own => (reached ER (kcell ck) 0 : sProp 𝕄)) ⊢ reached ER (kcell ck) 0 :=
  bigSep_elim (Finset.mem_univ ck)
theorem records_reached (ck : Dev nD × Option Own) : records I K ⊢ (reached ER (kcell ck) 0 : sProp 𝕄) := by
  unfold records
  iintro ⟨-, H⟩
  iapply (reached_elim ck) $$ H
theorem records_inv : records I K ⊢ (bigSep Finset.univ fun ck : Dev nD × Option Own => (cellInv ER (Rd I) (K ck) (kcell ck) : sProp 𝕄)) := by
  unfold records
  iintro ⟨H, -⟩
  iexact H

/-- Its positions and its tokens. -/
def linear (c : Dev nD) : sProp 𝕄 :=
  iprop((bigSep Finset.univ fun k : Option Own => atPos ER (kcell (c, k)) 0 ∅ 0) ∗ payToks c)

/-- The credits of a lane's waits. -/
def laneCred (c : Dev nD) (d : Dir) (q : Fin 2) : sProp 𝕄 :=
  iprop((bigSep (Finset.Ico 0 30) fun r => cred (tallyAt (creditC d q c) (lvC r q) 1))
    ∗ bigSep (Finset.Ico 0 30) fun r => cred (tallyAt (recvC d (slot (r + 1)) q c) (lvR r q) N))

theorem at_first (c : Dev nD) (k : Option Own) : iprop(records I K ∗ atPos ER (kcell (c, k)) 0 ∅ 0) ⊢ (At (kcell (c, k)) 0 : sProp 𝕄) := by
  unfold At
  iintro ⟨HR, H⟩
  isplitl [H]; · iexact H
  iapply (records_reached I K (c, k)) $$ HR

theorem lane_start (c : Dev nD) (d : Dir) (q : Fin 2) :
    iprop(records I K ∗ lane (fun k => atPos ER (kcell (c, k)) 0 ∅ 0) d q
        ∗ (bigSep (Finset.Ico 0 30) fun r => dutyTok ER (creditC d q (src d c)) r false)
        ∗ (bigSep (Finset.Ico 0 30) fun r => dutyTok ER (sendC d (slot r) q c) (r / 2) false)
        ∗ (bigSep (Finset.Ico 0 30) fun r => dutyTok ER (recvC d (slot (r + 1)) q (tgt d c)) (r / 2) false)
        ∗ laneCred c d q)
      ⊢ (Idle c d q 0 : sProp 𝕄) := by
  unfold lane laneCred Idle CreditW GrantT SendT SendW RecvW
  iintro ⟨#HR, ⟨Hc, Hs0, Hs1, Hr1, Hr0⟩, Tc, Ts, Tr, Cc, Cr⟩
  isplitl [Hc Cc]
  · isplitl [Hc]
    · iapply (at_first I K c (some (.credit d q))); isplitr; · iexact HR
      iexact Hc
    · iexact Cc
  isplitl [Tc]; · iexact Tc
  isplitl [Ts Tr]
  · rw [bigSep_sep']
    isplitl [Ts]; · iexact Ts
    iexact Tr
  isplitl [Hs0 Hs1]
  · isplitl [Hs0]
    · iapply (at_first I K c (some (.send d 0 q))); isplitr; · iexact HR
      iexact Hs0
    · iapply (at_first I K c (some (.send d 1 q))); isplitr; · iexact HR
      iexact Hs1
  isplitl [Hr0 Hr1 Cr]
  · isplitl [Hr0 Hr1]
    · isplitl [Hr1]
      · iapply (at_first I K c (some (.recv d 1 q))); isplitr; · iexact HR
        iexact Hr1
      · iapply (at_first I K c (some (.recv d 0 q))); isplitr; · iexact HR
        iexact Hr0
    · iexact Cr
  iapply (records_reached I K (src d c, some (.credit d q))); iexact HR

theorem copies_start (c : Dev nD) (d : Dir) :
    iprop(records I K ∗ atPos ER (kcell (c, some (.copy d))) 0 ∅ 0
        ∗ (bigSep (Finset.Ico 0 16) fun r => dutyTok ER (copyC d c) r false) ∗ (bigSep (Finset.Ico 0 16) fun r => Bany (F := F) d r c))
      ⊢ (Copied I c d 0 : sProp 𝕄) := by
  unfold Copied
  iintro ⟨#HR, Ha, Ht, Hb⟩
  isplitl [Ha]
  · iapply (at_first I K c (some (.copy d))); isplitr; · iexact HR
    iexact Ha
  isplitl [Ht Hb]
  · rw [bigSep_sep']
    isplitl [Ht]; · iexact Ht
    iexact Hb
  · rw [Finset.range_zero, bigSep_empty]
    iempintro

/-- The credits a device is dealt. -/
def creds (c : Dev nD) : sProp 𝕄 := iprop(cred (tallyAt (barC c) 1 2) ∗ lanesOf (laneCred (F := F) c))

theorem device_start (c : Dev nD) (f : Buf (Elt F) ((c : Thread nD τ).loc main_v1)) :
    iprop(records I K ∗ linear c ∗ creds c ∗ ((c : Thread nD τ).loc main_v1 ↦{fullShare} f))
      ⊢ (iprop(Shake c ∗ (Idles c 0 0 ∗ Idles c 1 0) ∗ Copieds I c 0) : sProp 𝕄) := by
  unfold linear creds
  rw [cells_split, payToks_split]
  unfold lanesOf Shake Idles Copieds
  iintro ⟨#HR, ⟨⟨Hbar, ⟨⟨⟨A1, A2⟩, A3, A4⟩, Hcf, Hcb⟩⟩, ⟨Tl, Tr⟩, ⟨⟨C1, C2⟩, C3, C4⟩, ⟨⟨S1, S2⟩, S3, S4⟩, ⟨⟨R1, R2⟩, R3, R4⟩, Kf, Kb⟩, ⟨Cb, ⟨D1, D2⟩, D3, D4⟩, Hout⟩
  ihave Hb := (out_split c f) $$ Hout
  icases Hb with ⟨Bf, Bb⟩
  isplitl [Hbar Tl Tr Cb]
  · isplitl [Hbar Cb]
    · isplitl [Hbar]; · iexact Hbar
      iexact Cb
    isplitl [Tl]
    · isplitl [Tl]; · iexact Tl
      iapply (records_reached I K (lft c, none)); iexact HR
    · isplitl [Tr]; · iexact Tr
      iapply (records_reached I K (rgt c, none)); iexact HR
  isplitr [Hcf Hcb Kf Kb Bf Bb]
  · isplitl [A1 A2 C1 C2 S1 S2 R1 R2 D1 D2]
    · isplitl [A1 C1 S1 R1 D1]
      · iapply (lane_start I K c .fw 0)
        isplitr; · iexact HR
        isplitl [A1]; · iexact A1
        isplitl [C1]; · iexact C1
        isplitl [S1]; · iexact S1
        isplitl [R1]; · iexact R1
        iexact D1
      · iapply (lane_start I K c .bw 0)
        isplitr; · iexact HR
        isplitl [A2]; · iexact A2
        isplitl [C2]; · iexact C2
        isplitl [S2]; · iexact S2
        isplitl [R2]; · iexact R2
        iexact D2
    · isplitl [A3 C3 S3 R3 D3]
      · iapply (lane_start I K c .fw 1)
        isplitr; · iexact HR
        isplitl [A3]; · iexact A3
        isplitl [C3]; · iexact C3
        isplitl [S3]; · iexact S3
        isplitl [R3]; · iexact R3
        iexact D3
      · iapply (lane_start I K c .bw 1)
        isplitr; · iexact HR
        isplitl [A4]; · iexact A4
        isplitl [C4]; · iexact C4
        isplitl [S4]; · iexact S4
        isplitl [R4]; · iexact R4
        iexact D4
  · isplitl [Hcf Kf Bf]
    · iapply (copies_start I K c .fw)
      isplitr; · iexact HR
      isplitl [Hcf]; · iexact Hcf
      isplitl [Kf]; · iexact Kf
      iexact Bf
    · iapply (copies_start I K c .bw)
      isplitr; · iexact HR
      isplitl [Hcb]; · iexact Hcb
      isplitl [Kb]; · iexact Kb
      iexact Bb

/-! ## What a device ends with -/

/-- The round at which a cell has no duty left. -/
def endOf : Option Own → ℕ
  | none => 1
  | some (.credit _ _) => 30
  | some (.send _ _ _) => 15
  | some (.recv _ _ _) => 15
  | some (.copy _) => 16
theorem endOf_duties : ∀ (k : Option Own) (r : ℕ), endOf k ≤ r → dutiesOf k r = ∅
  | none, r, h => if_neg (by have : 1 ≤ r := h; omega)
  | some (.credit _ _), r, h => if_neg (by have : 30 ≤ r := h; omega)
  | some (.send _ _ _), r, h => if_neg (by have : 15 ≤ r := h; omega)
  | some (.recv _ _ _), r, h => if_neg (by have : 15 ≤ r := h; omega)
  | some (.copy _), r, h => if_neg (by have : 16 ≤ r := h; omega)

/-- The position of a device in its cell at the end. -/
abbrev atEnd (c : Dev nD) (k : Option Own) : sProp 𝕄 := atPos ER (kcell (c, k)) (endOf k) ∅ 0

theorem lane_end (c : Dev nD) (d : Dir) (q : Fin 2) : (Idle c d q 30 : sProp 𝕄) ⊢ lane (atEnd c) d q := by
  unfold Idle CreditW SendW RecvW At lane
  iintro ⟨⟨⟨Hc, -⟩, -⟩, -, -, ⟨⟨Hs0, -⟩, Hs1, -⟩, ⟨⟨⟨Hr1, -⟩, Hr0, -⟩, -⟩, -⟩
  isplitl [Hc]; · iexact Hc
  isplitl [Hs0]; · iexact Hs0
  isplitl [Hs1]; · iexact Hs1
  isplitl [Hr1]; · iexact Hr1
  iexact Hr0

theorem copies_end (c : Dev nD) (d : Dir) :
    (Copied I c d 16 : sProp 𝕄) ⊢ iprop(atEnd c (some (.copy d)) ∗ bigSep (Finset.range 16) fun t => B I d t c) := by
  unfold Copied At
  iintro ⟨⟨Ha, -⟩, -, Hb⟩
  isplitl [Ha]; · iexact Ha
  iexact Hb

theorem device_end (c : Dev nD) :
    iprop(atPos ER (barC c) 1 ∅ 0 ∗ (Idles c 0 30 ∗ Idles c 1 30) ∗ Copieds I c 16)
      ⊢ (iprop((bigSep Finset.univ fun k : Option Own => atEnd c k) ∗ ((c : Thread nD τ).loc main_v1 ↦{fullShare} outV I)) : sProp 𝕄) := by
  rw [cells_split]
  unfold Idles Copieds
  iintro ⟨Hbar, ⟨⟨A1, A2⟩, A3, A4⟩, Cf, Cb⟩
  ihave Hf := (copies_end I c .fw) $$ Cf
  ihave Hb := (copies_end I c .bw) $$ Cb
  icases Hf with ⟨Pf, Bf⟩
  icases Hb with ⟨Pb, Bb⟩
  isplitr [Bf Bb]
  · isplitl [Hbar]; · iexact Hbar
    isplitr [Pf Pb]
    · isplitl [A1 A2]
      · isplitl [A1]
        · iapply (lane_end c .fw 0) $$ A1
        · iapply (lane_end c .bw 0) $$ A2
      · isplitl [A3]
        · iapply (lane_end c .fw 1) $$ A3
        · iapply (lane_end c .bw 1) $$ A4
    · isplitl [Pf]; · iexact Pf
      iexact Pb
  · iapply (out_join I c)
    isplitl [Bf]; · iexact Bf
    iexact Bb

/-- Past its last round a cell is closed, and its counter is zero. -/
theorem cell_zero (c : Dev nD) (k : Option Own) : iprop(Ctx I K ∗ atEnd c k) ⊢ (iprop(|={Set.univ}=> semVal (kcell (c, k)) 0) : sProp 𝕄) := by
  iintro ⟨HC, Ha⟩
  iapply (Rounds.cell_close ER (Rd I) (Set.mem_univ (K (c, k))) (fun h => h) (R := endOf k) (duties_end I (c, k) (endOf_duties k)))
  isplitl [HC]
  · iapply (ctx_inv I K (c, k)) $$ HC
  · iexact Ha

theorem cells_zero (c : Dev nD) : iprop(Ctx I K ∗ bigSep Finset.univ fun k : Option Own => atEnd c k)
    ⊢ (iprop(|={Set.univ}=> bigSep Finset.univ fun k : Option Own => semVal (kcell (c, k)) 0) : sProp 𝕄) :=
  (bigSep_given (R := Ctx I K) fun k _ => cell_zero I K c k).trans (bigSep_fupd _ _)

end Cert.RingProof

end
-- ==== Proof.Launch.lean ====
/-
# The body on the device, and what it starts from

The staged operands, what the kernel starts from and ends with, and the body between the two.
-/
module

public import proofs.«01_k».proof.Proof.Deal
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The operands as each device stages them. -/
def opsOf : Operands F where
  x c := (win0_0.blk (0 : Fin 1)).view.read (Elt F) (m ((c : Thread nD τ).loc main_arg0))
  w c := (win0_1.blk (0 : Fin 1)).view.read (Elt F) (m ((c : Thread nD τ).loc main_arg1))

/-- What device `c`'s kernel starts from. -/
def start (c : Dev nD) : sProp 𝕄 :=
  iprop((∃ K, records (opsOf m) K ∗ linear c) ∗ creds c ∗ levAts L lv
    ∗ ((c : Thread nD τ).loc main_v1 ↦{fullShare} m ((c : Thread nD τ).loc main_v1)))
/-- Its scratch buffers. -/
def scratch (c : Dev nD) : sProp 𝕄 := iprop(PartsAny c ∗ (commAny .fw c ∗ commAny .bw c))

def Φ₀ (c : Dev nD) : sProp 𝕄 := iprop(start m c ∗ scratch c)
/-- What it ends with: every cell closed at zero, and the result. -/
def Φ₁ (c : Dev nD) : sProp 𝕄 :=
  iprop(scratch c ∗ (bigSep Finset.univ fun k : Option Own => semVal (kcell (c, k)) 0)
    ∗ ((c : Thread nD τ).loc main_v1 ↦{fullShare} outV (opsOf m)))

def dats (_ : Fin 1) (c : Dev nD) : Dat τ (Elt F) ℕ ℕ UU ℕ cfg0 c where
  A w := m ((cfg0.win w).arr.view.loc (c : Thread nD τ))
  after w _ := match w with
    | ⟨0, _⟩ => (opsOf m).x c
    | ⟨1, _⟩ => (opsOf m).w c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt 0 t0_0.succ ∗ stg c cc0_stg0_0 ((opsOf m).x c) ∗ stg c cc0_stg1_0 ((opsOf m).w c))

theorem before_x (c : Dev nD) (d) : (dats m 0 c).before (0 : Fin 2) t0_0 d = (opsOf m).x c := by
  unfold Dat.before; rw [if_pos (fetch0_0 t0_0)]; rfl
theorem before_w (c : Dev nD) (d) : (dats m 0 c).before (1 : Fin 2) t0_0 d = (opsOf m).w c := by
  unfold Dat.before; rw [if_pos (fetch0_1 t0_0)]; rfl

/-- What the run leaves, with the cells closed. -/
theorem finish (K : Dev nD × Option Own → ℕ) (c : Dev nD) :
    iprop(Ctx (opsOf m) K ∗ (atPos ER (barC c) 1 ∅ 0 ∗ (Ins (opsOf m) c ∗ PartsAny c ∗ (commAny .fw c ∗ commAny .bw c))
        ∗ (Idles c 0 30 ∗ Idles c 1 30) ∗ Copieds (opsOf m) c 16 ∗ Owe c 0))
      ⊢ (iprop(|={Set.univ}=> bodyPost m c) : sProp 𝕄) := by
  iintro ⟨HC, Hbar, ⟨Hin, Hsc⟩, Hid, Hcp, Ho⟩
  ihave H := (device_end (opsOf m) c) $$ [Hbar Hid Hcp]
  · isplitl [Hbar]; · iexact Hbar
    isplitl [Hid]; · iexact Hid
    iexact Hcp
  icases H with ⟨Hat, Hout⟩
  imod (cells_zero (opsOf m) K c) $$ [HC Hat] with Hz
  · isplitl [HC] <;> iassumption
  imodintro
  unfold bodyPost Φ₁ Dat.owesAt Pipeline.owesWithin scratch Owe Ins
  rw [show (dats m 0 c).owed t0_0.succ = 0 from rfl]
  isplitl [Hsc Hz Hout]
  · isplitl [Hsc]; · iexact Hsc
    isplitl [Hz]; · iexact Hz
    iexact Hout
  isplitl [Ho]
  · icases Ho with ⟨%W, Ho⟩
    iexists W
    isplitr; · ipureintro; exact fun _ _ => Or.inl trivial
    iexact Ho
  icases Hin with ⟨Hx, Hw⟩
  isplitl [Hx]
  · iexists _; isplitr; · (ipureintro; rfl)
    iexact Hx
  · iexists _; isplitr; · (ipureintro; rfl)
    iexact Hw

theorem run_body (c : Dev nD) (Φ : PUnit → sProp 𝕄) : run c (bodyAt0 (F := F) t0_0) Φ = run c (deviceRun c) Φ := by
  rw [body_eq]
  show wp frame (wpE (defs₀ (F := F)) 𝒱₀ (c : Thread nD τ) none) Set.univ (.op .deviceId fun c' => deviceRun c') Φ = _
  rw [wp_deviceId]
/-- A run whose end holds after an update. -/
theorem run_fupd (c : Dev nD) (p : Pg F PUnit) (Φ : PUnit → sProp 𝕄) :
    run c p (fun a => iprop(|={Set.univ}=> Φ a)) ⊢ run c p Φ := wp_fupd _ _ _ p Φ

theorem sound_body (c : Dev nD) : bodyPre m c ⊢ run c (bodyAt0 (F := F) t0_0) (fun _ => bodyPost m c) := by
  rw [run_body]
  unfold bodyPre Φ₀ start scratch Dat.owesAt Pipeline.owesWithin
  rw [show (dats m 0 c).owed t0_0.castSucc = O₀ c from rfl]
  iintro ⟨⟨⟨⟨%K, #HR, Hlin⟩, Hcr, #Hlev, Hout⟩, Hsc⟩, ⟨%W, -, HO⟩, ⟨%dx, %gx, %hx, Hx⟩, ⟨%dw, %gw, %hw, Hw⟩⟩
  have hx' : gx = (opsOf m).x c := hx.trans (before_x m c dx)
  have hw' : gw = (opsOf m).w c := hw.trans (before_w m c dw)
  subst hx' hw'
  ihave Hst := (device_start (opsOf m) K c (m ((c : Thread nD τ).loc main_v1))) $$ [Hlin Hcr Hout]
  · isplitr; · iexact HR
    isplitl [Hlin]; · iexact Hlin
    isplitl [Hcr]; · iexact Hcr
    iexact Hout
  icases Hst with ⟨Hsh, Hid, Hcp⟩
  have hC : iprop(records (opsOf m) K ∗ levAts L lv) ⊢ (Ctx (opsOf m) K : sProp 𝕄) := by
    unfold Ctx
    iintro ⟨H1, H2⟩
    isplitl [H1]
    · iapply (records_inv (opsOf m) K) $$ H1
    · iexact H2
  ihave #HC := hC $$ []
  · isplitr; · iexact HR
    iexact Hlev
  iapply (run_fupd c (deviceRun c) fun _ => bodyPost m c)
  iapply (run_device (opsOf m) K c fun _ => iprop(|={Set.univ}=> bodyPost m c)) $$ [Hsh Hsc Hx Hw Hid Hcp HO]
  · isplitr; · iexact HC
    isplitl [Hsh]; · iexact Hsh
    isplitl [Hsc Hx Hw]
    · isplitl [Hx Hw]
      · unfold Ins
        isplitl [Hx]; · iexact Hx
        iexact Hw
      · iexact Hsc
    isplitl [Hid]; · iexact Hid
    isplitl [Hcp]; · iexact Hcp
    unfold Owe
    iexists W; iexact HO
  · iintro H
    iapply (finish m K c)
    isplitr; · iexact HC
    iexact H

/-! ## The launch element -/

theorem own_scoped : ∀ k : Own, (osem k).isScoped .tc = true := by decide +kernel
theorem own_disjoint : ∀ (k : Own) (w : Fin 2) (s : Fin (spec0 w).nbuf), osem k ≠ .dma ((spec0 w).sem s) := by decide +kernel
theorem ownSemFacts : Pipeline.OwnSemFacts cfg0.spec osem :=
  ⟨own_scoped, fun a b h => Option.some.inj (csem_injective (a₁ := some a) (a₂ := some b) h), own_disjoint⟩

theorem share_eq (c : Dev nD) (w : Fin cfg0.W) : (dats m 0 c).share w = fullShare := by unfold Dat.share; split <;> rfl

def ringCells : Finset (GSem nD τ sig) := Finset.univ.map ⟨kcell, kcell_injective⟩
def ringToks : Finset (GSem nD τ sig × ℕ × Bool) := Finset.univ.map ⟨tokOf, tokOf_injective⟩
def u₀ : UU :=
  (initOf (Pipeline.cells cfgs cellOf_inj) (Pipeline.launchToks cfgs cellOf_inj), initOf ringCells ringToks)

/-- A device's cells at round 0, and their positions. -/
abbrev states (c : Dev nD) : sProp 𝕄 := bigSep Finset.univ fun k : Option Own => roundState ER (Rd (opsOf m)) (kcell (c, k)) 0
abbrev positions (c : Dev nD) : sProp 𝕄 := bigSep Finset.univ fun k : Option Own => atPos ER (kcell (c, k)) 0 ∅ 0
abbrev marks (c : Dev nD) : sProp 𝕄 := bigSep Finset.univ fun k : Option Own => reached ER (kcell (c, k)) 0

/-- What the launch deals device `c`, -/
def G (c : Dev nD) : sProp 𝕄 := iprop(states m c ∗ marks c ∗ positions c ∗ payToks c)
/-- and what the allocation of the invariants makes of it. -/
def G' (c : Dev nD) : sProp 𝕄 := iprop(∃ K, records (opsOf m) K ∗ linear c)

theorem over_devices (Φ : GSem nD τ sig → sProp 𝕄) :
    bigSep ringCells Φ = bigSep Finset.univ fun c : Dev nD => bigSep Finset.univ fun k : Option Own => Φ (kcell (c, k)) := by
  unfold ringCells; rw [bigSep_map, bigSep_univ_prod]; rfl

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => payToks c := by
    unfold ringToks; rw [bigSep_map, bigSep_univ_prod]; rfl
  refine (Rounds.fund ER (Rd (opsOf m)) ringCells ringToks).trans (BI.bupd_mono ?_)
  unfold G
  rw [bigSep_sep', bigSep_sep', bigSep_sep', over_devices, over_devices, over_devices, hT]
  exact BI.Entails.refl _

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    (bigSep Finset.univ fun k : Option Own => semVal (kcell (c, k)) 0 : sProp 𝕄)
      = iprop(unscopedSems0 c ∗ Pipeline.ownSems0 (Ix := ℕ) (Name := ℕ) (U := UU) (Lvl := ℕ) (Val := Elt F) (τ := τ) osem c) := by
  rw [cells_own, unscopedSems0_eq]; rfl

/-- The cells' invariants, allocated. -/
abbrev invsAny (c : Dev nD) : sProp 𝕄 := bigSep Finset.univ fun k : Option Own => iprop(∃ κ : ℕ, cellInv ER (Rd (opsOf m)) κ (kcell (c, k)))

theorem cells_alloc (c : Dev nD) :
    iprop((bigSep Finset.univ fun k : Option Own => semVal (kcell (c, k)) 0) ∗ states m c) ⊢ (iprop(|={Set.univ}=> invsAny m c) : sProp 𝕄) := by
  rw [← bigSep_sep']
  exact (bigSep_mono fun k _ => (Rounds.body_intro ER (Rd (opsOf m)) (kcell (c, k))).trans inv_alloc).trans (bigSep_fupd _ _)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop(invsAny m c ∗ marks c ∗ positions c ∗ payToks c) := by
  unfold G
  iintro ⟨Hos, Hus, Hst, Hm, Hat, Htok⟩
  imod (cells_alloc m c) $$ [Hos Hus Hst] with Hinv
  · rw [sems0_eq]
    isplitl [Hos Hus]
    · isplitl [Hus] <;> iassumption
    · iexact Hst
  imodintro
  isplitl [Hinv]; · iexact Hinv
  isplitl [Hm]; · iexact Hm
  isplitl [Hat]; · iexact Hat
  iexact Htok

theorem device_ghost (K : Dev nD × Option Own → ℕ) (c : Dev nD) : iprop(records (opsOf m) K ∗ linear c) ⊢ G' m c := by
  unfold G'
  iintro H
  iexists K; iexact H

theorem regroup :
    (bigSep Finset.univ fun c : Dev nD => iprop(invsAny m c ∗ marks c ∗ positions c ∗ payToks c) : sProp 𝕄) ⊢ bigSep Finset.univ (G' m) := by
  rw [bigSep_sep', bigSep_sep', ← bigSep_univ_prod (fun ck : Dev nD × Option Own => iprop(∃ κ : ℕ, cellInv ER (Rd (opsOf m)) κ (kcell ck))),
    ← bigSep_univ_prod (fun ck : Dev nD × Option Own => (reached ER (kcell ck) 0 : sProp 𝕄))]
  iintro ⟨HI, HR, Hlin⟩
  ihave HK := (BI.bigSep_exists_pi Finset.univ (fun (ck : Dev nD × Option Own) (κ : ℕ) => (cellInv ER (Rd (opsOf m)) κ (kcell ck) : sProp 𝕄))) $$ HI
  icases HK with ⟨%K, HI⟩
  iapply (bigSep_given (R := records (opsOf m) K) fun c _ => device_ghost m K c)
  isplitl [HI HR]
  · unfold records
    isplitl [HI]; · iexact HI
    iexact HR
  · iexact Hlin

/-- The step taken for all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the neighbours owe a lane's cells is the credit of the lane's waits. -/
theorem lane_creds (c : Dev nD) (ℓ : Lane) :
    (Pipeline.launchCred (fun d => owedLane d ℓ 0 0) c : sProp 𝕄) ⊢ laneCred c ℓ.1 ℓ.2 := by
  unfold owedLane laneCred
  rw [Pipeline.launchCred_add (fun d => ∑ r ∈ Finset.Ico 0 30, tallyAt (creditC ℓ.1 ℓ.2 (src ℓ.1 d)) (lvC r ℓ.2) 1)
      (fun d => ∑ r ∈ Finset.Ico 0 30, tallyAt (recvC ℓ.1 (slot (r + 1)) ℓ.2 (tgt ℓ.1 d)) (lvR r ℓ.2) N),
    Pipeline.launchCred_sum (Finset.Ico 0 30) (fun r d => tallyAt (creditC ℓ.1 ℓ.2 (src ℓ.1 d)) (lvC r ℓ.2) 1),
    Pipeline.launchCred_sum (Finset.Ico 0 30) (fun r d => tallyAt (recvC ℓ.1 (slot (r + 1)) ℓ.2 (tgt ℓ.1 d)) (lvR r ℓ.2) N)]
  exact BI.sep_mono
    (bigSep_mono fun r _ => Pipeline.launchCred_tallyAt (.reg (creditS ℓ.1 ℓ.2)) (src ℓ.1) (tgt ℓ.1) (src_tgt ℓ.1) (tgt_src ℓ.1) _ _ c)
    (bigSep_mono fun r _ => Pipeline.launchCred_tallyAt (.dma (recvS ℓ.1 (slot (r + 1)) ℓ.2)) (tgt ℓ.1) (src ℓ.1) (tgt_src ℓ.1) (src_tgt ℓ.1) _ _ c)

theorem bigSep_lane (Φ : Lane → sProp 𝕄) : bigSep Finset.univ Φ = iprop((Φ (.fw, 0) ∗ Φ (.fw, 1)) ∗ (Φ (.bw, 0) ∗ Φ (.bw, 1))) := by
  rw [bigSep_univ_prod, bigSep_dir, bigSep_two, bigSep_two]

theorem device_creds (c : Dev nD) : (Pipeline.launchCred O₀ c : sProp 𝕄) ⊢ creds c := by
  have h : (Pipeline.launchCred O₀ c : sProp 𝕄)
      = iprop(((bigSep Finset.univ fun ℓ : Lane => Pipeline.launchCred (fun d => owedLane d ℓ 0 0) c)
          ∗ Pipeline.launchCred (fun d => tallyAt (barC (rgt d)) 1 1) c) ∗ Pipeline.launchCred (fun d => tallyAt (barC (lft d)) 1 1) c) := by
    unfold O₀ O₁ owed
    rw [Pipeline.launchCred_add (fun d => (∑ ℓ : Lane, owedLane d ℓ 0 0) + tallyAt (barC (rgt d)) 1 1) (fun d => tallyAt (barC (lft d)) 1 1),
      Pipeline.launchCred_add (fun d => ∑ ℓ : Lane, owedLane d ℓ 0 0) (fun d => tallyAt (barC (rgt d)) 1 1),
      Pipeline.launchCred_sum Finset.univ (fun (ℓ : Lane) d => owedLane d ℓ 0 0)]
  rw [h, bigSep_lane]
  unfold creds lanesOf
  iintro ⟨⟨⟨⟨A, B⟩, C, D⟩, HR⟩, HL⟩
  ihave HR := (Pipeline.launchCred_tallyAt (.reg barS) rgt lft (tgt_src .fw) (src_tgt .fw) 1 1 c) $$ HR
  ihave HL := (Pipeline.launchCred_tallyAt (.reg barS) lft rgt (src_tgt .fw) (tgt_src .fw) 1 1 c) $$ HL
  isplitl [HR HL]
  · have h2 : (tallyAt (barC c) 1 2 : CellTallies nD τ sig ℕ) = tallyAt (barC c) 1 1 + tallyAt (barC c) 1 1 := (tallyAt_add (barC c) 1 1 1).symm
    rw [h2]
    iapply (cred_add _ _).2
    isplitl [HR]; · iexact HR
    iexact HL
  isplitl [A C]
  · isplitl [A]
    · iapply (lane_creds c (.fw, 0)) $$ A
    · iapply (lane_creds c (.bw, 0)) $$ C
  · isplitl [B]
    · iapply (lane_creds c (.fw, 1)) $$ B
    · iapply (lane_creds c (.bw, 1)) $$ D

/-! ## The launch's side conditions -/

theorem rest_eq (c : Dev nD) :
    (Pipeline.unscopedRestP (Ix := ℕ) (Name := ℕ) (U := UU) (Lvl := ℕ) Pipeline.Prefetch.none cfg0.spec c (fun b => m ((c : Thread nD τ).loc b)) : sProp 𝕄)
      = ((c : Thread nD τ).loc main_v1 ↦{fullShare} m ((c : Thread nD τ).loc main_v1)) := by
  rw [Pipeline.unscopedRestP_none]
  exact unscopedRest0_eq c _

/-- The scratch buffers are the launch's scoped buffers. -/
theorem scratch_eq (c : Dev nD) :
    (scratch (F := F) c : sProp 𝕄) ⊣⊢ Pipeline.scopedRest (Ix := ℕ) (Name := ℕ) (U := UU) (Lvl := ℕ) (Val := Elt F) cfg0.spec c := by
  have h : (Pipeline.scopedRest (Ix := ℕ) (Name := ℕ) (U := UU) (Lvl := ℕ) (Val := Elt F) cfg0.spec c : sProp 𝕄) = _ := scopedRest0_eq c
  rw [h]
  unfold scratch PartsAny PartAny commAny
  rw [set_comm, set_comm]
  constructor
  · iintro ⟨⟨A, B⟩, C, D⟩
    isplitl [C]; · iexact C
    isplitl [D]; · iexact D
    isplitl [A]; · iexact A
    iexact B
  · iintro ⟨C, D, A, B⟩
    isplitl [A B]
    · isplitl [A]; · iexact A
      iexact B
    · isplitl [C]; · iexact C
      iexact D

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hrest, Hlev, Hcr, -, HG⟩
  ihave Hc := (device_creds c) $$ Hcr
  imodintro
  unfold start G'
  isplitl
  · isplitl [HG]; · iexact HG
    isplitl [Hc]; · iexact Hc
    isplitl [Hlev]; · iexact Hlev
    iapply (Entails.of_eq (rest_eq m c)) $$ Hrest
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_eq c).2 $$ Hr

theorem phi1_exit (c : Dev nD) :
    (dats m 0 c).Φ (Fin.last cfg0.N) ⊢ iprop((unscopedSems0 c ∗ ((c : Thread nD τ).loc main_v1 ↦{fullShare} outV (opsOf m)))
      ∗ Pipeline.ownSems0 osem c ∗ Pipeline.scopedRest cfg0.spec c) := by
  rw [show (dats m 0 c).Φ (Fin.last cfg0.N) = Φ₁ m c from rfl]
  unfold Φ₁
  rw [sems0_eq]
  iintro ⟨Hs, ⟨Hu, Ho⟩, Hout⟩
  isplitl [Hu Hout]
  · isplitl [Hu]; · iexact Hu
    iexact Hout
  isplitl [Ho]; · iexact Ho
  iapply (scratch_eq c).1 $$ Hs

/-- At the end the memory's result is read off. -/
theorem result_read (c : Dev nD) (s' : Phys nD τ sig (Elt F)) :
    iprop((unscopedSems0 c ∗ ((c : Thread nD τ).loc main_v1 ↦{fullShare} outV (opsOf m))) ∗ emp ∗ SI s')
      ⊢ (iprop(|={Set.univ}=> iprop(⌜(∀ sm : SemLoc sig, sm.isScoped .tc = false → s'.mem.sem ((c.tc : Thread nD τ), sm) = 0)
          ∧ s'.mem.mem ((c : Thread nD τ).loc main_v1) = outV (opsOf m)⌝ ∗ SI s')) : sProp 𝕄) := by
  iintro ⟨⟨Hu, Ho⟩, -, HSI⟩
  icombine HSI Ho gives %h
  imod (Pipeline.unscopedSems0_read (X := unscopedSems0 c) (c := c) fupd_intro s') $$ [Hu HSI] with ⟨%h', HSI⟩
  · isplitl [Hu] <;> iassumption
  imodintro
  isplitr
  · ipureintro; exact ⟨h', Buf.eq_of_forall_mem_univ h⟩
  · iexact HSI

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_above c _ (by decide) (above_O₀ c)
    · exact mayWait_above c _ (by decide) (above_zero 0)

/-! ## The run -/

/-- What the run ends with: the operands unchanged and on every device the same result. -/
def Ends (r : PUnit × MemSt nD τ sig (Elt F)) : Prop :=
  (∀ c : Dev nD, (∀ w : Fin cfg0.W, r.2.mem ((cfg0.win w).arr.view.loc (c : Thread nD τ)) = m ((cfg0.win w).arr.view.loc (c : Thread nD τ)))
      ∧ r.2.mem ((c : Thread nD τ).loc main_v1) = outV (opsOf m))
    ∧ r.2.sem = fun _ => 0

theorem arr_same (c : Dev nD) (w : Fin cfg0.W) : (dats m 0 c).arrAt w cfg0.N = m ((cfg0.win w).arr.view.loc (c : Thread nD τ)) := by
  match w with
  | ⟨0, _⟩ => exact (dats m 0 c).arrAt_in (0 : Fin 2) rfl _
  | ⟨1, _⟩ => exact (dats m 0 c).arrAt_in (1 : Fin 2) rfl _

/-- The certificate's body on device `c` is the kernel's. -/
theorem body_at : defs₀ (F := F) .tc cfg0.body (cfg0.bodyArgs t0_0 (cfg0.slots t0_0)) = bodyAt0 (F := F) t0_0 := rfl

/-- The library's body obligation on core `c`. -/
theorem body_obligation (c : Dev nD) : BodyObligation (dats (F := F) m 0 c) (defs₀ (F := F)) 𝒱₀ 0 Set.univ := fun t => by
  rw [fin_N0 t]
  rw [bigSep_W, bigSep_W]
  simp only [owns_whole_eq]
  rw [body_at]
  have h := sound_body m c
  unfold run bodyPre bodyPost at h
  have e1 : (dats m 0 c).Φ t0_0.castSucc = Φ₀ m c := rfl
  have e2 : (dats m 0 c).Φ t0_0.succ = Φ₁ m c := rfl
  have e3 : (dats m 0 c).after 0 t0_0 = (opsOf m).x c := rfl
  have e4 : (dats m 0 c).after 1 t0_0 = (opsOf m).w c := rfl
  rw [e1, e2, e3, e4]
  generalize bodyAt0 (F := F) t0_0 = b at h ⊢
  exact h

/-- No block is empty. -/
theorem numel_pos (w : Fin cfg0.W) : 0 < (cfg0.spec w).block.numel := by
  match w with
  | ⟨0, _⟩ => exact (by decide : 0 < (⟨2, ![4096, 256]⟩ : Shape).numel)
  | ⟨1, _⟩ => exact (by decide : 0 < (⟨2, ![256, 8192]⟩ : Shape).numel)

/-- The library's cells and the kernel's are set up. -/
theorem fund : (ownU u₀ : sProp 𝕄) ⊢ |={Set.univ}=> iprop(BI.own (EP (initOf (Pipeline.cells (Pipeline.pin (fun p => (cfgs p).toPCfg (Val := Elt F)) (fun p => (cfgs p).toPCfg_adm (Val := Elt F))) cellOf_inj)
    (Pipeline.launchToks (Pipeline.pin (fun p => (cfgs p).toPCfg (Val := Elt F)) (fun p => (cfgs p).toPCfg_adm (Val := Elt F))) cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-- What the launch ends with, told of one memory. -/
theorem ends_of (s : MemSt nD τ sig (Elt F))
    (h : ∀ c : Dev nD, (∀ w : Fin cfg0.W, s.mem ((cfg0.win w).arr.view.loc (c : Thread nD τ)) = (dats m 0 c).arrAt w cfg0.N)
      ∧ (∀ k : Fin 0, True) ∧ ((∀ sm : SemLoc sig, sm.isScoped .tc = false → s.sem ((c.tc : Thread nD τ), sm) = 0)
      ∧ s.mem ((c : Thread nD τ).loc main_v1) = outV (opsOf m)))
    (hs : ∀ g' : GSem nD τ sig, (g'.1.2 ≠ .tc ∨ g'.2.isScoped .tc = true) → s.sem g' = 0) : Ends m (⟨⟩, s) :=
  ⟨fun c => ⟨fun w => ((h c).1 w).trans (arr_same m c w), (h c).2.2.2⟩, sem_eq_zero hs fun c => (h c).2.2.1⟩

/-- From any memory with all counters zero, every weakly fair execution of the sixteen devices terminates, with the
    operands unchanged, the result on every device, and all counters zero again. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := numel_pos) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund m)
    (hglob := glob m)
    (hA := fun _ _ => rfl) (hpf := fun _ k => k.elim0)
    (X := start m) (Y := fun c => iprop(unscopedSems0 c ∗ ((c : Thread nD τ).loc main_v1 ↦{fullShare} outV (opsOf m)))) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_v1) = outV (opsOf m))
    (hY := result_read m)
    (hQ := fun s h hs => ends_of m s (fun c => ⟨(h c).1, fun _ => trivial, (h c).2.2⟩) hs)

end Cert.RingProof

end
-- ==== Proof.Partial.lean ====
/-
# What one chunk holds

At exact values the chunk that a device passes on in step `s` is a sum of `s + 1` partial products of the same 256
rows: those of the device itself and of the `s` devices behind it on the ring. After the fifteen adding steps
every device of the ring has contributed once.
-/
module

public import proofs.«01_k».proof.Proof.Contents
public import Idealize.ShloMosaic.PureOps.Ideal.Laws
public import Idealize.ShloMosaic.Lib.MatmulPlain
public import Idealize.ShloMosaic.Lib.Pipeline.Value

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.Sem
open scoped BigOperators

variable (I : Operands Ideal)

/-! ## One partial product -/

/-- Row `i` of the block of rows `k` of the result. -/
abbrev rowAt (k : Dev nD) (i : Fin 256) : Fin 4096 := ⟨256 * k.val + i.val, by have h : k.val < 16 := k.isLt; omega⟩
/-- Column `j` of a direction's half of the result. -/
abbrev colAt (d : Dir) (j : Fin 4096) : Fin 8192 := ⟨colW d + j.val, by cases d <;> (simp only [colW]; omega)⟩

/-- What device `c` contributes to the entry in row `i`, column `j` of the block of rows `k`. -/
def entry (d : Dir) (c k : Dev nD) (i : Fin 256) (j : Fin 4096) : EReal :=
  ∑ l : Fin 256, I.x c (ix2 (n0 := 4096) (n1 := 256) (rowAt k i) l) * I.w c (ix2 (n0 := 256) (n1 := 8192) l (colAt d j))

/-- The product of a block of 256 or of 128 rows with half of the columns, before it is stored. -/
theorem product_apply {n : ℕ} (A : FVec Ideal ⟨2, ![n, 256]⟩ .bf16) (B : FVec Ideal ⟨2, ![256, 4096]⟩ .bf16) (a : Fin n) (b : Fin 4096) :
    matmul (DotDims.plain n 256 4096) none A B (constant ⟨2, ![n, 4096]⟩ .f32 0x00000000#32) (ix2 a b)
      = ∑ l : Fin 256, A (ix2 a l) * B (ix2 l b) :=
  (Ideal.matmul_plain_apply (M := n) (K := 256) (N := 4096) none A B _ a b).trans (by
    show Ideal.ofBits .f32 0x00000000#32 + _ = _
    rw [Ideal.ofBits_zero_f32, zero_add])

theorem pay1_apply (A : Vec Ideal S128x256 .bf16) (B : Vec Ideal S256x4096 .bf16) (a : Fin 128) (b : Fin 4096) :
    k0_pay1 A B (ix3 (n0 := 1) (n1 := 128) (n2 := 4096) 0 a b)
      = ∑ l : Fin 256, A (ix2 (n0 := 128) (n1 := 256) a l) * B (ix2 (n0 := 256) (n1 := 4096) l b) := by
  unfold k0_pay1
  simp only [shapeCast_self]
  exact (shapeCast_ab_1ab_apply (a := 128) (b := 4096) _ _ 0 a b).trans (product_apply A B a b)

theorem pay6_apply (A : Vec Ideal S256x256 .bf16) (B : Vec Ideal S256x4096 .bf16) (a : Fin 256) (b : Fin 4096) :
    k0_pay6 A B (ix2 (n0 := 256) (n1 := 4096) a b)
      = ∑ l : Fin 256, A (ix2 (n0 := 256) (n1 := 256) a l) * B (ix2 (n0 := 256) (n1 := 4096) l b) := by
  unfold k0_pay6
  simp only [shapeCast_self]
  exact product_apply A B a b

theorem pay10_apply (X : Vec Ideal S1x128x4096 .bf16) (Y : Vec Ideal S128x4096 .bf16) (a : Fin 128) (b : Fin 4096) :
    k0_pay10 X Y (ix3 (n0 := 1) (n1 := 128) (n2 := 4096) 0 a b)
      = (X (ix3 (n0 := 1) (n1 := 128) (n2 := 4096) 0 a b) + Y (ix2 (n0 := 128) (n1 := 4096) a b) : EReal) := by
  unfold k0_pay10
  refine (shapeCast_ab_1ab_apply (a := 128) (b := 4096) _ _ 0 a b).trans ?_
  show (shapeCast S128x4096 X _ (ix2 (n0 := 128) (n1 := 4096) a b) + Y (ix2 (n0 := 128) (n1 := 4096) a b) : EReal) = _
  exact congrArg (fun z : EReal => z + Y (ix2 (n0 := 128) (n1 := 4096) a b)) (shapeCast_1ab_ab_apply (a := 128) (b := 4096) X _ a b)

/-! ## Which rows are read -/

theorem off_own : ∀ (c : Dev nD) (q : Fin 2), k0_off1 c (BitVec.ofNat 32 (128 * q.val)) = ![256 * c.val + 128 * q.val, 0] := by
  decide +kernel
theorem off_add_fw : ∀ (c : Dev nD) (s : Fin 15), k0_off2 c (BitVec.ofNat 32 s.val) = ![256 * ((src .fw)^[s.val + 1] c).val, 0] := by
  decide +kernel
theorem off_add_bw : ∀ (c : Dev nD) (s : Fin 15), k0_off3 c (BitVec.ofNat 32 s.val) = ![256 * ((src .bw)^[s.val + 1] c).val, 0] := by
  decide +kernel
theorem off_add (c : Dev nD) (s : Fin 15) : ∀ d, offX c s d = ![256 * ((src d)^[s.val + 1] c).val, 0]
  | .fw => off_add_fw c s
  | .bw => off_add_bw c s

theorem load_w (d : Dir) (c : Dev nD) (l : Fin 256) (j : Fin 4096) :
    (wM).view.readAt (Elt Ideal) (rectW d).toLoadRect (I.w c) (ix2 (n0 := 256) (n1 := 4096) l j)
      = I.w c (ix2 (n0 := 256) (n1 := 8192) l (colAt d j)) := by
  refine congrArg (I.w c) (funext fun a => ?_)
  match a with
  | ⟨0, _⟩ => exact Fin.ext (by show 0 + 1 * l.val = l.val; omega)
  | ⟨1, _⟩ => exact Fin.ext (by show colW d + 1 * j.val = colW d + j.val; omega)

/-- A load of `n` rows of `x` from row `r` on. -/
theorem load_x (c : Dev nD) {n r : ℕ} (off : Fin 2 → Nat) (inb : ∀ a, off a + (![n, 256] : Fin 2 → Nat) a ≤ S4096x256.size a) (ho : off = ![r, 0])
    (i : Fin n) (l : Fin 256) (h : r + i.val < 4096) :
    (xM).view.readAt (Elt Ideal) (Rect.unit (s := S4096x256) off ![n, 256] inb).toLoadRect (I.x c) (ix2 (n0 := n) (n1 := 256) i l)
      = I.x c (ix2 (n0 := 4096) (n1 := 256) ⟨r + i.val, h⟩ l) := by
  subst ho
  refine congrArg (I.x c) (funext fun a => ?_)
  match a with
  | ⟨0, _⟩ => exact Fin.ext (by show r + 1 * i.val = r + i.val; omega)
  | ⟨1, _⟩ => exact Fin.ext (by show 0 + 1 * l.val = l.val; omega)

/-! ## The chunks -/

theorem glue_apply (Y : Fin 2 → Vec Ideal S1x128x4096 .bf16) (i : Fin 256) (j : Fin 4096) :
    glue Y (ix2 (n0 := 256) (n1 := 4096) i j)
      = Y ⟨i.val / 128, by omega⟩ (ix3 (n0 := 1) (n1 := 128) (n2 := 4096) 0 ⟨i.val % 128, Nat.mod_lt _ (by decide)⟩ j) := rfl

/-- A device's own partial product of its own rows. -/
theorem own_apply (d : Dir) (c : Dev nD) (i : Fin 256) (j : Fin 4096) :
    glue (ownV I d c) (ix2 (n0 := 256) (n1 := 4096) i j) = entry I d c c i j := by
  rw [glue_apply]
  unfold ownV entry
  rw [pay1_apply]
  refine Finset.sum_congr rfl fun l _ => ?_
  have hc : c.val < 16 := c.isLt
  rw [load_w, load_x I c _ _ (off_own c _) _ _ (by show 256 * c.val + 128 * (i.val / 128) + i.val % 128 < 4096; omega)]
  refine congrArg (· * _) (congrArg (I.x c) (congrArg (ix2 · l) (Fin.ext ?_)))
  show 256 * c.val + 128 * (i.val / 128) + i.val % 128 = 256 * c.val + i.val
  omega

/-- The partial product of an adding step. -/
theorem part_apply (d : Dir) (c : Dev nD) (s : Fin 15) (i : Fin 256) (j : Fin 4096) :
    partV I d c s (ix2 (n0 := 256) (n1 := 4096) i j) = entry I d c ((src d)^[s.val + 1] c) i j := by
  unfold partV entry
  rw [pay6_apply]
  refine Finset.sum_congr rfl fun l _ => ?_
  have hc : ((src d)^[s.val + 1] c).val < 16 := ((src d)^[s.val + 1] c).isLt
  rw [load_w, load_x I c _ _ (off_add c s d) _ _ (by show 256 * ((src d)^[s.val + 1] c).val + i.val < 4096; omega)]

/-- An adding step. -/
theorem add_apply (d : Dir) (c : Dev nD) (s : Fin 15) (i : Fin 256) (j : Fin 4096) :
    V I d (s.val + 1) c (ix2 (n0 := 256) (n1 := 4096) i j)
      = (V I d s.val (src d c) (ix2 (n0 := 256) (n1 := 4096) i j) + entry I d c ((src d)^[s.val + 1] c) i j : EReal) := by
  have hi : (⟨128 * (i.val / 128) + i.val % 128, by omega⟩ : Fin 256) = i := Fin.ext (by show 128 * (i.val / 128) + i.val % 128 = i.val; omega)
  rw [V_add, glue_apply, pay10_apply, ← part_apply]
  show (V I d s.val (src d c) (ix2 (n0 := 256) (n1 := 4096) ⟨128 * (i.val / 128) + i.val % 128, _⟩ j)
    + partV I d c s (ix2 (n0 := 256) (n1 := 4096) ⟨128 * (i.val / 128) + i.val % 128, _⟩ j) : EReal) = _
  rw [hi]

/-- The chunk passed on in step `s`: the contributions of `s + 1` devices to one block of rows. -/
theorem V_apply (d : Dir) (i : Fin 256) (j : Fin 4096) : ∀ (s : ℕ) (c : Dev nD), s ≤ 15 →
    V I d s c (ix2 (n0 := 256) (n1 := 4096) i j) = ∑ t ∈ Finset.range (s + 1), entry I d ((src d)^[t] c) ((src d)^[s] c) i j
  | 0, c, _ => by
    rw [V_zero, own_apply, Finset.sum_range_one]; rfl
  | s + 1, c, h => by
    rw [add_apply I d c ⟨s, by omega⟩, V_apply d i j s (src d c) (by omega), Finset.sum_range_succ' _ (s + 1)]
    rfl

end Cert.RingProof

end
-- ==== Proof.Equation.lean ====
/-
# The kernel's result is the reference's

An entry of the kernel's result is the sum, around the ring, of what each device contributes to it: sixteen dot
products of length 256. Cut along the contracted axis, the reference's dot product of length 4096 is the sum of the
same sixteen. The roundings are identities at exact values.
-/
module

public import proofs.«01_k».proof.Proof.Partial
public import proofs.«01_k».proof.Proof.Launch
public import proofs.«01_k».proof.Proof.Gen.ReferenceIdeal.Run
public import Idealize.ShloMosaic.Lib.Layout
public import Idealize.ShloMosaic.Lib.StackMember
public import Mathlib.Algebra.BigOperators.Fin

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.Sem
open scoped BigOperators

/-! ## Around the ring -/

/-- Sixteen steps lead back. -/
theorem ring_closes : ∀ (d : Dir) (k : Dev nD), (src d)^[15] (src d k) = k := by decide +kernel

theorem ring_inj : ∀ (d : Dir) (k : Dev nD) (t t' : Fin 16), (src d)^[t.val] (src d k) = (src d)^[t'.val] (src d k) → t = t' := by
  decide +kernel

/-- Sixteen steps meet every device once. -/
theorem ring_sum (d : Dir) (k : Dev nD) (f : Dev nD → EReal) : ∑ t ∈ Finset.range 16, f ((src d)^[t] (src d k)) = ∑ c : Dev nD, f c := by
  rw [Finset.sum_range]
  exact Function.Bijective.sum_comp (Finite.injective_iff_bijective.mp fun t t' h => ring_inj d k t t' h) f

variable (I : Operands Ideal)

/-- A finished chunk: every device's contribution to the block of rows `k`. -/
theorem V_done (d : Dir) (k : Dev nD) (i : Fin 256) (j : Fin 4096) :
    V I d 15 (src d k) (ix2 (n0 := 256) (n1 := 4096) i j) = ∑ c : Dev nD, entry I d c k i j := by
  rw [V_apply I d i j 15 (src d k) le_rfl, ring_closes]
  exact ring_sum d k fun c => entry I d c k i j

/-- The entries of the result. -/
theorem outV_apply (r : Fin 4096) (j : Fin 8192) :
    outV I (ix2 (n0 := 4096) (n1 := 8192) r j)
      = ∑ c : Dev nD, ∑ l : Fin 256, I.x c (ix2 (n0 := 4096) (n1 := 256) r l) * I.w c (ix2 (n0 := 256) (n1 := 8192) l j) := by
  have hr : rowAt ⟨r.val / 256, by show _ < 16; omega⟩ ⟨r.val % 256, Nat.mod_lt _ (by decide)⟩ = r :=
    Fin.ext (by show 256 * (r.val / 256) + r.val % 256 = r.val; omega)
  have hj : colAt (colDir j.val) ⟨j.val % 4096, Nat.mod_lt _ (by decide)⟩ = j := Fin.ext (by
    show colW (colDir j.val) + j.val % 4096 = j.val
    unfold colDir
    split
    · show 0 + j.val % 4096 = j.val; omega
    · show 4096 + j.val % 4096 = j.val; omega)
  refine (V_done I (colDir j.val) ⟨r.val / 256, by show _ < 16; omega⟩ ⟨r.val % 256, Nat.mod_lt _ (by decide)⟩
    ⟨j.val % 4096, Nat.mod_lt _ (by decide)⟩).trans (Finset.sum_congr rfl fun c _ => ?_)
  unfold entry
  rw [hr, hj]

/-! ## The operands -/

/-- Column `l` of device `c`'s columns of `x`, which is the row of `w` it is multiplied with. -/
abbrev depthAt (c : Dev nD) (l : Fin 256) : Fin 4096 := ⟨c.val * 256 + l.val, by have h : c.val < 16 := c.isLt; omega⟩

/-- The contracted axis cut in sixteen. -/
theorem depth_sum (f : Fin 4096 → EReal) : ∑ n : Fin 4096, f n = ∑ c : Dev nD, ∑ l : Fin 256, f (depthAt c l) := by
  rw [← Equiv.sum_comp (finProdFinEquiv (m := 16) (n := 256)) f, Fintype.sum_prod_type]
  refine Finset.sum_congr rfl fun c _ => Finset.sum_congr rfl fun l _ => congrArg f (Fin.ext ?_)
  show l.val + 256 * c.val = c.val * 256 + l.val
  omega

variable (m : (ℓ : Loc nD τ sig) → Buf (Elt Ideal) ℓ)

/-- The block that a device stages is its whole operand. -/
theorem staged_x (c : Dev nD) (i : S4096x256.Idx) : (opsOf m).x c i = m ((c : Thread nD τ).loc main_arg0) i :=
  congrArg (m ((c : Thread nD τ).loc main_arg0)) (funext fun a => by
    match a with
    | ⟨0, _⟩ => exact Fin.ext (by show 0 * 4096 + 1 * (i 0).val = (i 0).val; omega)
    | ⟨1, _⟩ => exact Fin.ext (by show 0 * 256 + 1 * (i 1).val = (i 1).val; omega))
theorem staged_w (c : Dev nD) (i : S256x8192.Idx) : (opsOf m).w c i = m ((c : Thread nD τ).loc main_arg1) i :=
  congrArg (m ((c : Thread nD τ).loc main_arg1)) (funext fun a => by
    match a with
    | ⟨0, _⟩ => exact Fin.ext (by show 0 * 256 + 1 * (i 0).val = (i 0).val; omega)
    | ⟨1, _⟩ => exact Fin.ext (by show 0 * 8192 + 1 * (i 1).val = (i 1).val; omega))

/-! ## The equation -/

variable (X : FVec Ideal ⟨2, ![4096, 4096]⟩ .bf16) (W : FVec Ideal ⟨2, ![4096, 8192]⟩ .bf16)

/-- The reference's result. -/
def refV : FVec Ideal ⟨2, ![4096, 8192]⟩ .bf16 :=
  truncf .bf16 (Host.dotGeneral Cert.ReferenceIdeal.dot_S4096x4096_S4096x8192_S4096x8192_1_0_0_1_n_n none X W : FVec Ideal ⟨2, ![4096, 8192]⟩ .f32)
    Cert.ReferenceIdeal.Gen.facts.bitsLt_bf16_f32

theorem refV_apply (r : Fin 4096) (j : Fin 8192) :
    refV X W (ix2 r j) = (∑ n : Fin 4096, X (ix2 r n) * W (ix2 n j) : EReal) :=
  StackMember.dotGeneral_plain_apply (m := 4096) (k := 4096) (n := 8192) (φ₁ := .bf16) (φ₂ := .bf16) none X W r j

/-- With every device holding its columns of `X` and its rows of `W`, the kernel's result is the reference's. -/
theorem result_eq
    (hX : ∀ c : Dev nD, m ((c : Thread nD τ).loc main_arg0) = Layout.block ⟨2, ![4096, 256]⟩ ⟨2, ![4096, 4096]⟩ 1 16 c X)
    (hW : ∀ c : Dev nD, m ((c : Thread nD τ).loc main_arg1) = Layout.block ⟨2, ![256, 8192]⟩ ⟨2, ![4096, 8192]⟩ 0 16 c W) :
    outV (opsOf m) = refV X W := by
  funext i
  rw [eq_ix2 (n0 := 4096) (n1 := 8192) i]
  refine (outV_apply (opsOf m) (i 0) (i 1)).trans (Eq.trans ?_ ((refV_apply X W (i 0) (i 1)).trans (depth_sum _)).symm)
  refine Finset.sum_congr rfl fun c _ => Finset.sum_congr rfl fun l _ => ?_
  rw [staged_x, staged_w, hX, hW, Layout.block_apply, Layout.block_apply]
  refine congrArg₂ (fun a b : EReal => a * b) (congrArg X (funext fun a => ?_)) (congrArg W (funext fun a => ?_))
  · match a with
    | ⟨0, _⟩ => rfl
    | ⟨1, _⟩ => rfl
  · match a with
    | ⟨0, _⟩ => rfl
    | ⟨1, _⟩ => rfl

end Cert.RingProof

end
-- ==== Proof.lean ====
/-
# The certificate of the sixteen-device product

Assembles the claims: every program runs, keeps its arguments and leaves every counter at zero, and at exact values
every device of the kernel ends with the reference's product. The run of the kernel is proved once, for any float
values (Proof/Launch.lean); the equation of the two results is in Proof/Equation.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation

@[expose] public section

noncomputable section

namespace Cert.Proof

open Idealize.ShloMosaic Idealize.SL.Sem Cert.RingProof

/-- The kernel's text and the idealized program's are the same text: one meaning of the regions. -/
theorem defs_same : Cert.Kernel.defs (F := Bits) = Cert.KernelIdeal.defs (F := Bits) := by
  chain_rfl

/-- Over any float values the kernel runs to the end, keeps its operands and leaves every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1 (0 : Fin 2), (h.1 c).1 (1 : Fin 2)⟩, h.2⟩) (run_main m ρ)

/-- The kernel at machine values: its text is the idealized program's. -/
theorem frame_kernel : Cert.quiescent_Kernel := by
  intro m ρ _
  refine (congrArg (fun D => θ_run D (onTc (τ := Cert.KernelIdeal.τ) (Cert.KernelIdeal.main (F := Bits))) ⟨m, fun _ => 0, ρ⟩ _)
    defs_same).mpr ?_
  exact frame_any (F := Bits) m ρ

/-- The same at exact values. -/
theorem frame_kernelIdeal : Cert.quiescent_KernelIdeal := fun m ρ _ => frame_any (F := Ideal) m ρ

/-- The reference runs to the end, keeps its operands and has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the reference's product. -/
theorem algebraic : Cert.algebraic_KernelIdeal_ReferenceIdeal := fun m ρ m' ρ' _ hm =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.trans (result_eq m _ _ (fun c => (hm c).1) (fun c => (hm c).2)), (h.1 c).1 (0 : Fin 2), (h.1 c).1 (1 : Fin 2)⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
